-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "inv_dim" .f32 0x3AAAAAAB#32 ((1 / 768 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x768 : Shape := ⟨3, ![2, 2048, 768]⟩
abbrev S768 : Shape := ⟨1, ![768]⟩
abbrev S1536x768 : Shape := ⟨2, ![1536, 768]⟩
abbrev S1536 : Shape := ⟨1, ![1536]⟩
abbrev S1536x4 : Shape := ⟨2, ![1536, 4]⟩
abbrev S1536x16 : Shape := ⟨2, ![1536, 16]⟩
abbrev S768x1536 : Shape := ⟨2, ![768, 1536]⟩
abbrev S1x768 : Shape := ⟨2, ![1, 768]⟩
abbrev S1x1536 : Shape := ⟨2, ![1, 1536]⟩
abbrev S4x1536 : Shape := ⟨2, ![4, 1536]⟩
abbrev S16x1536 : Shape := ⟨2, ![16, 1536]⟩
abbrev S1x512x768 : Shape := ⟨3, ![1, 512, 768]⟩
abbrev S520x1536 : Shape := ⟨2, ![520, 1536]⟩
abbrev S512x1536 : Shape := ⟨2, ![512, 1536]⟩
abbrev S512x768 : Shape := ⟨2, ![512, 768]⟩
abbrev S512 : Shape := ⟨1, ![512]⟩
abbrev S512x1 : Shape := ⟨2, ![512, 1]⟩
abbrev S8x1536 : Shape := ⟨2, ![8, 1536]⟩
abbrev S32x512 : Shape := ⟨2, ![32, 512]⟩
abbrev S32x1536 : Shape := ⟨2, ![32, 1536]⟩

abbrev nBuf : Space → Nat
  | .hbm => 22
  | .vmem => 19
  | .smem => 0
  | _ => 0

abbrev bufTy : (tb : Table) → Fin (tcTables nBuf tb) → BufTy
  | .hbm, ⟨0, _⟩ => ⟨S2x2048x768, .f32⟩
  | .hbm, ⟨1, _⟩ => ⟨S768, .f32⟩
  | .hbm, ⟨2, _⟩ => ⟨S1536x768, .f32⟩
  | .hbm, ⟨3, _⟩ => ⟨S1536, .f32⟩
  | .hbm, ⟨4, _⟩ => ⟨S1536x4, .f32⟩
  | .hbm, ⟨5, _⟩ => ⟨S1536x16, .f32⟩
  | .hbm, ⟨6, _⟩ => ⟨S1536x16, .f32⟩
  | .hbm, ⟨7, _⟩ => ⟨S1536x16, .f32⟩
  | .hbm, ⟨8, _⟩ => ⟨S768x1536, .f32⟩
  | .hbm, ⟨9, _⟩ => ⟨S768, .f32⟩
  | .hbm, ⟨10, _⟩ => ⟨S1x768, .f32⟩
  | .hbm, ⟨11, _⟩ => ⟨S768x1536, .f32⟩
  | .hbm, ⟨12, _⟩ => ⟨S768x1536, .bf16⟩
  | .hbm, ⟨13, _⟩ => ⟨S1x1536, .f32⟩
  | .hbm, ⟨14, _⟩ => ⟨S4x1536, .f32⟩
  | .hbm, ⟨15, _⟩ => ⟨S16x1536, .f32⟩
  | .hbm, ⟨16, _⟩ => ⟨S16x1536, .f32⟩
  | .hbm, ⟨17, _⟩ => ⟨S16x1536, .f32⟩
  | .hbm, ⟨18, _⟩ => ⟨S1536x768, .f32⟩
  | .hbm, ⟨19, _⟩ => ⟨S1536x768, .bf16⟩
  | .hbm, ⟨20, _⟩ => ⟨S1x768, .f32⟩
  | .hbm, ⟨21, _⟩ => ⟨S2x2048x768, .f32⟩
  | .local _ .vmem, ⟨0, _⟩ => ⟨S1x512x768, .f32⟩
  | .local _ .vmem, ⟨1, _⟩ => ⟨S1x512x768, .f32⟩
  | .local _ .vmem, ⟨2, _⟩ => ⟨S1x768, .f32⟩
  | .local _ .vmem, ⟨3, _⟩ => ⟨S768x1536, .bf16⟩
  | .local _ .vmem, ⟨4, _⟩ => ⟨S1x1536, .f32⟩
  | .local _ .vmem, ⟨5, _⟩ => ⟨S4x1536, .f32⟩
  | .local _ .vmem, ⟨6, _⟩ => ⟨S16x1536, .f32⟩
  | .local _ .vmem, ⟨7, _⟩ => ⟨S16x1536, .f32⟩
  | .local _ .vmem, ⟨8, _⟩ => ⟨S16x1536, .f32⟩
  | .local _ .vmem, ⟨9, _⟩ => ⟨S1536x768, .bf16⟩
  | .local _ .vmem, ⟨10, _⟩ => ⟨S1x768, .f32⟩
  | .local _ .vmem, ⟨11, _⟩ => ⟨S1x512x768, .f32⟩
  | .local _ .vmem, ⟨12, _⟩ => ⟨S1x512x768, .f32⟩
  | .local _ .vmem, ⟨13, _⟩ => ⟨S520x1536, .f32⟩
  | .local _ .vmem, ⟨14, _⟩ => ⟨S512x1536, .f32⟩
  | .local _ .vmem, ⟨15, _⟩ => ⟨S512x1536, .f32⟩
  | .local _ .vmem, ⟨16, _⟩ => ⟨S16x1536, .bf16⟩
  | .local _ .vmem, ⟨17, _⟩ => ⟨S512x1536, .bf16⟩
  | .local _ .vmem, ⟨18, _⟩ => ⟨S512x1536, .bf16⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨2, ![2, 4], ![false, false]⟩

def k0_mult1 : BitVec 32 :=
  let c0_i32_40 : BitVec 32 := 0#32
  c0_i32_40
def k0_mult2 : BitVec 32 :=
  let c32_i32 : BitVec 32 := 32#32
  c32_i32
def k0_mult3 : BitVec 32 :=
  let c0_i32_140 : BitVec 32 := 0#32
  c0_i32_140
@[reducible] def k0_t1_loop : Scf.Loop 32 :=
  let c1_i32_145 : BitVec 32 := 1#32
  let c7_i32 : BitVec 32 := 7#32
  let v690 : BitVec 32 := Scalar.addi c1_i32_145 c7_i32
  let c1_i32_146 : BitVec 32 := 1#32
  ⟨c1_i32_145, v690, c1_i32_146⟩
def k0_mult4 (k0_t1 : Fin k0_t1_loop.trips) : BitVec 32 :=
  let c2_i32 : BitVec 32 := 2#32
  let c1_i32_145 : BitVec 32 := 1#32
  let c1_i32_146 : BitVec 32 := 1#32
  let arg19 : BitVec 32 := Scf.iv c1_i32_145 c1_i32_146 k0_t1
  let v715 : BitVec 32 := Scalar.muli c2_i32 arg19
  let c32_i32_164 : BitVec 32 := 32#32
  let v716 : BitVec 32 := Scalar.muli v715 c32_i32_164
  v716
def k0_off1 (k0_t1 : Fin k0_t1_loop.trips) : Fin 2 → Nat :=
  let c2_i32 : BitVec 32 := 2#32
  let c1_i32_145 : BitVec 32 := 1#32
  let c1_i32_146 : BitVec 32 := 1#32
  let arg19 : BitVec 32 := Scf.iv c1_i32_145 c1_i32_146 k0_t1
  let v715 : BitVec 32 := Scalar.muli c2_i32 arg19
  let c32_i32_164 : BitVec 32 := 32#32
  let v716 : BitVec 32 := Scalar.muli v715 c32_i32_164
  let v717 : BitVec 32 := v716
  let v718 : Index := Scalar.indexCast v717
  let c0_165 : Index := 0#32
  ![v718.toNat, 0]
def k0_mult5 (k0_t1 : Fin k0_t1_loop.trips) : BitVec 32 :=
  let c2_i32_230 : BitVec 32 := 2#32
  let c1_i32_145 : BitVec 32 := 1#32
  let c1_i32_146 : BitVec 32 := 1#32
  let arg19 : BitVec 32 := Scf.iv c1_i32_145 c1_i32_146 k0_t1
  let v1008 : BitVec 32 := Scalar.muli c2_i32_230 arg19
  let c1_i32_231 : BitVec 32 := 1#32
  let v1009 : BitVec 32 := Scalar.subi v1008 c1_i32_231
  let c32_i32_232 : BitVec 32 := 32#32
  let v1010 : BitVec 32 := Scalar.muli v1009 c32_i32_232
  v1010
def k0_off2 (k0_t1 : Fin k0_t1_loop.trips) : Fin 2 → Nat :=
  let c2_i32_230 : BitVec 32 := 2#32
  let c1_i32_145 : BitVec 32 := 1#32
  let c1_i32_146 : BitVec 32 := 1#32
  let arg19 : BitVec 32 := Scf.iv c1_i32_145 c1_i32_146 k0_t1
  let v1008 : BitVec 32 := Scalar.muli c2_i32_230 arg19
  let c1_i32_231 : BitVec 32 := 1#32
  let v1009 : BitVec 32 := Scalar.subi v1008 c1_i32_231
  let c32_i32_232 : BitVec 32 := 32#32
  let v1010 : BitVec 32 := Scalar.muli v1009 c32_i32_232
  let v1011 : BitVec 32 := v1010
  let v1014 : Index := Scalar.indexCast v1011
  let c0_236 : Index := 0#32
  ![v1014.toNat, 0]
def k0_mult6 (k0_t1 : Fin k0_t1_loop.trips) : BitVec 32 :=
  let c2_i32_237 : BitVec 32 := 2#32
  let c1_i32_145 : BitVec 32 := 1#32
  let c1_i32_146 : BitVec 32 := 1#32
  let arg19 : BitVec 32 := Scf.iv c1_i32_145 c1_i32_146 k0_t1
  let v1018 : BitVec 32 := Scalar.muli c2_i32_237 arg19
  let c1_i32_238 : BitVec 32 := 1#32
  let v1019 : BitVec 32 := Scalar.addi v1018 c1_i32_238
  let c32_i32_239 : BitVec 32 := 32#32
  let v1020 : BitVec 32 := Scalar.muli v1019 c32_i32_239
  v1020
def k0_off3 (k0_t1 : Fin k0_t1_loop.trips) : Fin 2 → Nat :=
  let c2_i32_237 : BitVec 32 := 2#32
  let c1_i32_145 : BitVec 32 := 1#32
  let c1_i32_146 : BitVec 32 := 1#32
  let arg19 : BitVec 32 := Scf.iv c1_i32_145 c1_i32_146 k0_t1
  let v1018 : BitVec 32 := Scalar.muli c2_i32_237 arg19
  let c1_i32_238 : BitVec 32 := 1#32
  let v1019 : BitVec 32 := Scalar.addi v1018 c1_i32_238
  let c32_i32_239 : BitVec 32 := 32#32
  let v1020 : BitVec 32 := Scalar.muli v1019 c32_i32_239
  let v1021 : BitVec 32 := v1020
  let v1022 : Index := Scalar.indexCast v1021
  let c0_240 : Index := 0#32
  ![v1022.toNat, 0]
def k0_mult7 (k0_t1 : Fin k0_t1_loop.trips) : BitVec 32 :=
  let c2_i32_305 : BitVec 32 := 2#32
  let c1_i32_145 : BitVec 32 := 1#32
  let c1_i32_146 : BitVec 32 := 1#32
  let arg19 : BitVec 32 := Scf.iv c1_i32_145 c1_i32_146 k0_t1
  let v1312 : BitVec 32 := Scalar.muli c2_i32_305 arg19
  let c32_i32_306 : BitVec 32 := 32#32
  let v1313 : BitVec 32 := Scalar.muli v1312 c32_i32_306
  v1313
def k0_mult8 : BitVec 32 :=
  let c480_i32 : BitVec 32 := 480#32
  c480_i32
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S768x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1536x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "inv_dim" => some ((1 / 768 : ℝ) : EReal)
  | _ => none
-- ==== ReferenceIdeal.lean ====
abbrev S2x2048x768 : Shape := ⟨3, ![2, 2048, 768]⟩
abbrev S768 : Shape := ⟨1, ![768]⟩
abbrev S1536x768 : Shape := ⟨2, ![1536, 768]⟩
abbrev S1536 : Shape := ⟨1, ![1536]⟩
abbrev S1536x4 : Shape := ⟨2, ![1536, 4]⟩
abbrev S1536x16 : Shape := ⟨2, ![1536, 16]⟩
abbrev S768x1536 : Shape := ⟨2, ![768, 1536]⟩
abbrev S_ : Shape := ⟨0, ![]⟩
abbrev S2x2048 : Shape := ⟨2, ![2, 2048]⟩
abbrev S2x2048x1 : Shape := ⟨3, ![2, 2048, 1]⟩
abbrev S1x1x768 : Shape := ⟨3, ![1, 1, 768]⟩
abbrev S2x2048x1536 : Shape := ⟨3, ![2, 2048, 1536]⟩
abbrev S1x1x1536 : Shape := ⟨3, ![1, 1, 1536]⟩
abbrev S2x2051x1536 : Shape := ⟨3, ![2, 2051, 1536]⟩
abbrev S1536x1 : Shape := ⟨2, ![1536, 1]⟩
abbrev S2x1536x16 : Shape := ⟨3, ![2, 1536, 16]⟩
abbrev S2048x2x1536 : Shape := ⟨3, ![2048, 2, 1536]⟩
abbrev S1x2x1536 : Shape := ⟨3, ![1, 2, 1536]⟩
abbrev S2x1536 : Shape := ⟨2, ![2, 1536]⟩
abbrev S1x1536x16 : Shape := ⟨3, ![1, 1536, 16]⟩
abbrev S2x1536x1 : Shape := ⟨3, ![2, 1536, 1]⟩
abbrev S1536x2 : Shape := ⟨2, ![1536, 2]⟩

abbrev nBuf : Space → Nat
  | .hbm => 132
  | .vmem => 0
  | .smem => 0
  | _ => 0

abbrev hbmTy0_0 (i : Nat) : BufTy := match i % 128 with
  | 0 => ⟨S2x2048x768, .f32⟩
  | 1 => ⟨S768, .f32⟩
  | 2 => ⟨S1536x768, .f32⟩
  | 3 => ⟨S1536, .f32⟩
  | 4 => ⟨S1536x4, .f32⟩
  | 5 => ⟨S1536x16, .f32⟩
  | 6 => ⟨S1536x16, .f32⟩
  | 7 => ⟨S1536x16, .f32⟩
  | 8 => ⟨S768x1536, .f32⟩
  | 9 => ⟨S768, .f32⟩
  | 10 => ⟨S2x2048x768, .f32⟩
  | 11 => ⟨S_, .f32⟩
  | 12 => ⟨S2x2048, .f32⟩
  | 13 => ⟨S2x2048x1, .f32⟩
  | 14 => ⟨S2x2048x1, .f32⟩
  | 15 => ⟨S_, .f32⟩
  | 16 => ⟨S_, .f32⟩
  | 17 => ⟨S2x2048x1, .f32⟩
  | 18 => ⟨S2x2048x1, .f32⟩
  | 19 => ⟨S_, .f32⟩
  | 20 => ⟨S2x2048x1, .f32⟩
  | 21 => ⟨S2x2048x1, .f32⟩
  | 22 => ⟨S2x2048x768, .f32⟩
  | 23 => ⟨S2x2048x768, .f32⟩
  | 24 => ⟨S1x1x768, .f32⟩
  | 25 => ⟨S2x2048x768, .f32⟩
  | 26 => ⟨S2x2048x768, .f32⟩
  | 27 => ⟨S768x1536, .f32⟩
  | 28 => ⟨S2x2048x1536, .f32⟩
  | 29 => ⟨S1x1x1536, .f32⟩
  | 30 => ⟨S2x2048x1536, .f32⟩
  | 31 => ⟨S2x2048x1536, .f32⟩
  | 32 => ⟨S_, .i32⟩
  | 33 => ⟨S_, .f32⟩
  | 34 => ⟨S2x2051x1536, .f32⟩
  | 35 => ⟨S_, .f32⟩
  | 36 => ⟨S2x2048x1536, .f32⟩
  | 37 => ⟨S2x2048x1536, .f32⟩
  | 38 => ⟨S1536x1, .f32⟩
  | 39 => ⟨S1536, .f32⟩
  | 40 => ⟨S1x1x1536, .f32⟩
  | 41 => ⟨S2x2048x1536, .f32⟩
  | 42 => ⟨S2x2048x1536, .f32⟩
  | 43 => ⟨S2x2048x1536, .f32⟩
  | 44 => ⟨S2x2048x1536, .f32⟩
  | 45 => ⟨S1536x1, .f32⟩
  | 46 => ⟨S1536, .f32⟩
  | 47 => ⟨S1x1x1536, .f32⟩
  | 48 => ⟨S2x2048x1536, .f32⟩
  | 49 => ⟨S2x2048x1536, .f32⟩
  | 50 => ⟨S2x2048x1536, .f32⟩
  | 51 => ⟨S2x2048x1536, .f32⟩
  | 52 => ⟨S1536x1, .f32⟩
  | 53 => ⟨S1536, .f32⟩
  | 54 => ⟨S1x1x1536, .f32⟩
  | 55 => ⟨S2x2048x1536, .f32⟩
  | 56 => ⟨S2x2048x1536, .f32⟩
  | 57 => ⟨S2x2048x1536, .f32⟩
  | 58 => ⟨S2x2048x1536, .f32⟩
  | 59 => ⟨S1536x1, .f32⟩
  | 60 => ⟨S1536, .f32⟩
  | 61 => ⟨S1x1x1536, .f32⟩
  | 62 => ⟨S2x2048x1536, .f32⟩
  | 63 => ⟨S2x2048x1536, .f32⟩
  | 64 => ⟨S2x2048x1536, .f32⟩
  | 65 => ⟨S1536x16, .f32⟩
  | 66 => ⟨S1536x16, .f32⟩
  | 67 => ⟨S_, .f32⟩
  | 68 => ⟨S1536x16, .f32⟩
  | 69 => ⟨S1536x16, .f32⟩
  | 70 => ⟨S_, .f32⟩
  | 71 => ⟨S1536x16, .f32⟩
  | 72 => ⟨S1536x16, .f32⟩
  | 73 => ⟨S1536x16, .f32⟩
  | 74 => ⟨S1536x16, .f32⟩
  | 75 => ⟨S_, .f32⟩
  | 76 => ⟨S1536x16, .f32⟩
  | 77 => ⟨S1536x16, .f32⟩
  | 78 => ⟨S_, .f32⟩
  | 79 => ⟨S1536x16, .f32⟩
  | 80 => ⟨S1536x16, .f32⟩
  | 81 => ⟨S1536x16, .f32⟩
  | 82 => ⟨S1536x16, .f32⟩
  | 83 => ⟨S_, .f32⟩
  | 84 => ⟨S1536x16, .f32⟩
  | 85 => ⟨S1536x16, .f32⟩
  | 86 => ⟨S_, .f32⟩
  | 87 => ⟨S1536x16, .f32⟩
  | 88 => ⟨S1536x16, .f32⟩
  | 89 => ⟨S_, .f32⟩
  | 90 => ⟨S2x1536x16, .f32⟩
  | 91 => ⟨S2048x2x1536, .f32⟩
  | 92 => ⟨S_, .f32⟩
  | 93 => ⟨S2048x2x1536, .f32⟩
  | 94 => ⟨S_, .i32⟩
  | 95 => ⟨S2048x2x1536, .f32⟩
  | 96 => ⟨S1536x16, .f32⟩
  | 97 => ⟨S1536x16, .f32⟩
  | 98 => ⟨S1536x16, .f32⟩
  | 99 => ⟨S_, .i32⟩
  | 100 => ⟨S2x1536x16, .f32⟩
  | 101 => ⟨S2048x2x1536, .f32⟩
  | 102 => ⟨S_, .i32⟩
  | 103 => ⟨S_, .i1⟩
  | 104 => ⟨S_, .i32⟩
  | 105 => ⟨S_, .i32⟩
  | 106 => ⟨S1x2x1536, .f32⟩
  | 107 => ⟨S2x1536, .f32⟩
  | 108 => ⟨S1x1536x16, .f32⟩
  | 109 => ⟨S2x1536x16, .f32⟩
  | 110 => ⟨S2x1536x16, .f32⟩
  | 111 => ⟨S2x1536x1, .f32⟩
  | 112 => ⟨S1x1536x16, .f32⟩
  | 113 => ⟨S2x1536x16, .f32⟩
  | 114 => ⟨S2x1536x16, .f32⟩
  | 115 => ⟨S2x1536x16, .f32⟩
  | 116 => ⟨S2x1536x16, .f32⟩
  | 117 => ⟨S1536x2, .f32⟩
  | 118 => ⟨S2x1536, .f32⟩
  | 119 => ⟨S1x2x1536, .f32⟩
  | 120 => ⟨S_, .i32⟩
  | 121 => ⟨S_, .i32⟩
  | 122 => ⟨S2048x2x1536, .f32⟩
  | 123 => ⟨S_, .i32⟩
  | 124 => ⟨S_, .i32⟩
  | 125 => ⟨S2x2048x1536, .f32⟩
  | 126 => ⟨S1536x768, .f32⟩
  | 127 => ⟨S2x2048x768, .f32⟩
  | _ => ⟨S2x2048x768, .f32⟩

abbrev hbmTy0_1 (i : Nat) : BufTy := match i % 128 with
  | 0 => ⟨S1x1x768, .f32⟩
  | 1 => ⟨S2x2048x768, .f32⟩
  | 2 => ⟨S2x2048x768, .f32⟩
  | 3 => ⟨S2x2048x768, .f32⟩
  | _ => ⟨S2x2048x768, .f32⟩

abbrev hbmTy (i : Nat) : BufTy := match i / 128 with
  | 0 => hbmTy0_0 i
  | 1 => hbmTy0_1 i
  | _ => ⟨S2x2048x768, .f32⟩

abbrev bufTy : (tb : Table) → Fin (tcTables nBuf tb) → BufTy
  | .hbm, ⟨i, _⟩ => hbmTy i
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_call1_v0 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_2 : Ref sig .tc := ⟨.hbm, 67, rfl⟩
abbrev main_v48 : Ref sig .tc := ⟨.hbm, 68, rfl⟩
abbrev main_v49 : Ref sig .tc := ⟨.hbm, 69, rfl⟩
abbrev main_cst_3 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_4 : Ref sig .tc := ⟨.hbm, 75, rfl⟩
abbrev main_v54 : Ref sig .tc := ⟨.hbm, 76, rfl⟩
abbrev main_v55 : Ref sig .tc := ⟨.hbm, 77, rfl⟩
abbrev main_cst_5 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_6 : Ref sig .tc := ⟨.hbm, 83, rfl⟩
abbrev main_v60 : Ref sig .tc := ⟨.hbm, 84, rfl⟩
abbrev main_v61 : Ref sig .tc := ⟨.hbm, 85, rfl⟩
abbrev main_cst_7 : Ref sig .tc := ⟨.hbm, 86, rfl⟩
abbrev main_v62 : Ref sig .tc := ⟨.hbm, 87, rfl⟩
abbrev main_v63 : Ref sig .tc := ⟨.hbm, 88, rfl⟩
abbrev main_cst_8 : Ref sig .tc := ⟨.hbm, 89, rfl⟩
abbrev main_v64 : Ref sig .tc := ⟨.hbm, 90, rfl⟩
abbrev main_v65 : Ref sig .tc := ⟨.hbm, 91, rfl⟩
abbrev main_cst_9 : Ref sig .tc := ⟨.hbm, 92, rfl⟩
abbrev main_v66 : Ref sig .tc := ⟨.hbm, 93, rfl⟩
abbrev main_c_10 : Ref sig .tc := ⟨.hbm, 94, rfl⟩
abbrev main_v67_0 : Ref sig .tc := ⟨.hbm, 95, rfl⟩
abbrev main_v67_1 : Ref sig .tc := ⟨.hbm, 96, rfl⟩
abbrev main_v67_2 : Ref sig .tc := ⟨.hbm, 97, rfl⟩
abbrev main_v67_3 : Ref sig .tc := ⟨.hbm, 98, rfl⟩
abbrev main_v67_4 : Ref sig .tc := ⟨.hbm, 99, rfl⟩
abbrev main_v67_5 : Ref sig .tc := ⟨.hbm, 100, rfl⟩
abbrev main_v67_6 : Ref sig .tc := ⟨.hbm, 101, rfl⟩
abbrev main_while0c_c_17 : Ref sig .tc := ⟨.hbm, 102, rfl⟩
abbrev main_while0c_v75 : Ref sig .tc := ⟨.hbm, 103, rfl⟩
abbrev main_while0b_call2_c : Ref sig .tc := ⟨.hbm, 104, rfl⟩
abbrev main_while0b_call2_c_0 : Ref sig .tc := ⟨.hbm, 105, rfl⟩
abbrev main_while0b_call2_v0 : Ref sig .tc := ⟨.hbm, 106, rfl⟩
abbrev main_while0b_v75 : Ref sig .tc := ⟨.hbm, 107, rfl⟩
abbrev main_while0b_v76 : Ref sig .tc := ⟨.hbm, 108, rfl⟩
abbrev main_while0b_v77 : Ref sig .tc := ⟨.hbm, 109, rfl⟩
abbrev main_while0b_v78 : Ref sig .tc := ⟨.hbm, 110, rfl⟩
abbrev main_while0b_v79 : Ref sig .tc := ⟨.hbm, 111, rfl⟩
abbrev main_while0b_v80 : Ref sig .tc := ⟨.hbm, 112, rfl⟩
abbrev main_while0b_v81 : Ref sig .tc := ⟨.hbm, 113, rfl⟩
abbrev main_while0b_v82 : Ref sig .tc := ⟨.hbm, 114, rfl⟩
abbrev main_while0b_v83 : Ref sig .tc := ⟨.hbm, 115, rfl⟩
abbrev main_while0b_v84 : Ref sig .tc := ⟨.hbm, 116, rfl⟩
abbrev main_while0b_v85 : Ref sig .tc := ⟨.hbm, 117, rfl⟩
abbrev main_while0b_v86 : Ref sig .tc := ⟨.hbm, 118, rfl⟩
abbrev main_while0b_call3_v0 : Ref sig .tc := ⟨.hbm, 119, rfl⟩
abbrev main_while0b_call3_c : Ref sig .tc := ⟨.hbm, 120, rfl⟩
abbrev main_while0b_call3_c_0 : Ref sig .tc := ⟨.hbm, 121, rfl⟩
abbrev main_while0b_v87 : Ref sig .tc := ⟨.hbm, 122, rfl⟩
abbrev main_while0b_c_17 : Ref sig .tc := ⟨.hbm, 123, rfl⟩
abbrev main_while0b_v88 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩

abbrev nD : Nat := 1
abbrev τ : Topo := Topo.v7x

variable {F : FTy → Type} [FloatOps F]

abbrev main_while0_count : Scf.Loop 32 := ⟨0#32, 2048#32, 1#32⟩
-- ==== Proof.KernelIdeal.Points.lean ====
/- The kernel's grid points: which of them start a sequence, the staging memrefs and the scratch at a point. -/
module

public import proofs.«01_k».proof.Proof.Gen.KernelIdeal.Frame

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- The body's first condition: the second grid coordinate is zero. -/
abbrev startsSeq (i : grid0.Coords) : Prop := (Scalar.cmpi .ne (Scalar.extui (Scalar.cmpi .eq (BitVec.ofNat 32 (i 1).val) 0#32)) 0#32) = 1#1
/-- It holds at the first point of each sequence. -/
theorem startsSeq_iff : ∀ t : Fin cfg0.N, startsSeq (grid0.coords t) ↔ t.val % 4 = 0 :=
  (by decide +kernel : ∀ t : Fin grid0.N, startsSeq (grid0.coords t) ↔ t.val % 4 = 0)
/-- The body's second condition: the second grid coordinate is positive. -/
abbrev insideSeq (i : grid0.Coords) : Prop := (Scalar.cmpi .ne (Scalar.extui (Scalar.cmpi .sgt (BitVec.ofNat 32 (i 1).val) 0#32)) 0#32) = 1#1
/-- It holds at the other points. -/
theorem insideSeq_iff : ∀ t : Fin cfg0.N, insideSeq (grid0.coords t) ↔ 1 ≤ t.val % 4 :=
  (by decide +kernel : ∀ t : Fin grid0.N, insideSeq (grid0.coords t) ↔ 1 ≤ t.val % 4)

/-- Each window's current staging memref at point `t`, spelled as the pipeline passes it (`bodyAt0`), and its wholeness. -/
abbrev ms0_0 (t : Fin cfg0.N) : Memref sig .tc .vmem S1x512x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S768x1536 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x1536 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x1536 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x1536 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x1536 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1536x768 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x768 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512x768 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S520x1536 .f32 := Memref.whole cc0_scratch0
abbrev scM0_1 : Memref sig .tc .vmem S512x1536 .f32 := Memref.whole cc0_scratch1
abbrev scM0_2 : Memref sig .tc .vmem S512x1536 .f32 := Memref.whole cc0_scratch2
abbrev scM0_3 : Memref sig .tc .vmem S16x1536 .bf16 := Memref.whole cc0_scratch3
abbrev scM0_4 : Memref sig .tc .vmem S512x1536 .bf16 := Memref.whole cc0_scratch4
abbrev scM0_5 : Memref sig .tc .vmem S512x1536 .bf16 := Memref.whole cc0_scratch5
/-- The scratch `arg13` the kernel carries between points, as a view: what it holds is stated through it. -/
abbrev VS0_0 : View sig .tc .vmem S520x1536 .f32 := scM0_0.view
/-- The scratch `arg16` the kernel carries between points, as a view: what it holds is stated through it. -/
abbrev VS0_3 : View sig .tc .vmem S16x1536 .bf16 := scM0_3.view

/-- The frame kit's invariant with the scratch operands as memrefs owned at some contents: what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Body

end
-- ==== Proof.KernelIdeal.Spec.lean ====
/- The scan as a function of whole vectors, and what a list of row pieces leaves in a buffer. -/
module

public import proofs.«01_k».proof.Proof.KernelIdeal.Points
public import proofs.«01_k».proof.Proof.Gen.KernelIdeal.Skeleton
public import Idealize.ShloMosaic.Lib.Pointwise
public import Idealize.ShloMosaic.Lib.WritesUnit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- A state of the scan: 16 numbers for each of the 1536 channels. -/
abbrev St (F : FTy → Type) := FVec F S16x1536 .bf16

/-- Row `t` of the 512 rows `X`. -/
def rowOf (X : Vec F S512x1536 .f32) (t : ℕ) : FVec F S1x1536 .f32 :=
  fun j => X (ix2 ⟨t % 512, Nat.mod_lt _ (by decide)⟩ (j 1))

/-- One step of the scan: the decayed state plus the scaled row. -/
def stpR (sA : St F) (sCB : FVec F S16x1536 .f32) (r : FVec F S1x1536 .f32) (p : St F) : St F :=
  addf (mulf sA p) (truncf .bf16 (mulf sCB (broadcastTo S16x1536 r broadcasts_S1x1536_S16x1536)) bitsLt_bf16_f32)

/-- The states of the scan over the rows of `X`, from `h`. -/
def scan (sA : St F) (sCB : FVec F S16x1536 .f32) (X : Vec F S512x1536 .f32) (h : St F) : ℕ → St F
  | 0 => h
  | t + 1 => stpR sA sCB (rowOf X t) (scan sA sCB X h t)

theorem slices_row (n : ℕ) : S32x1536.Slices ![n % 32, 0] S1x1536 := by
  refine ⟨rfl, fun a => ?_⟩
  have : n % 32 < 32 := Nat.mod_lt _ (by decide)
  fin_cases a
  · show n % 32 + 1 ≤ 32
    omega
  · show 0 + 1536 ≤ 1536
    omega

/-- The states of the scan over a group of 32 rows, from `p`. -/
def gscan (sA : St F) (sCB : FVec F S16x1536 .f32) (xg : Vec F S32x1536 .f32) (p : St F) : ℕ → St F
  | 0 => p
  | n + 1 => stpR sA sCB (extractStridedSlice S1x1536 ![n % 32, 0] xg (slices_row n)) (gscan sA sCB xg p n)

/-- Rows `o` to `o + 31` of the 512. -/
def rows32 (X : Vec F S512x1536 .f32) (o : ℕ) : Vec F S32x1536 .f32 :=
  fun j => X (ix2 ⟨(o + (j 0).val) % 512, Nat.mod_lt _ (by decide)⟩ (j 1))

/-- The scan of one group continues the scan of the block. -/
theorem gscan_eq (sA : St F) (sCB : FVec F S16x1536 .f32) (X : Vec F S512x1536 .f32) (h : St F) (o : ℕ) :
    ∀ n : ℕ, n ≤ 32 → gscan sA sCB (rows32 X o) (scan sA sCB X h o) n = scan sA sCB X h (o + n)
  | 0, _ => rfl
  | n + 1, hn => by
    show stpR _ _ _ (gscan sA sCB (rows32 X o) (scan sA sCB X h o) n) = stpR _ _ _ (scan sA sCB X h (o + n))
    rw [gscan_eq sA sCB X h o n (by omega)]
    congr 1
    funext j
    have hj : (j 0).val = 0 := by have := (j 0).isLt; change (j 0).val < 1 at this; omega
    show X (ix2 _ _) = X (ix2 _ _)
    congr 1
    refine congrArg₂ ix2 (Fin.ext ?_) (Fin.ext ?_)
    · show (o + (n % 32 + (j 0).val)) % 512 = (o + n) % 512
      rw [hj, Nat.mod_eq_of_lt (by omega : n < 32)]; rfl
    · show 0 + (j 1).val = (j 1).val
      omega

theorem inb_piece (n : ℕ) (h : n < 32) : ∀ a, (![16 * n, 0] : Fin 2 → ℕ) a + S16x1536.size a ≤ S512x1536.size a := by
  intro a
  fin_cases a
  · show 16 * n + 16 ≤ 512
    omega
  · show 0 + 1536 ≤ 1536
    omega

/-- The pieces of the first `n` states, 16 rows each, the last first. -/
def pcs (w : ℕ → St F) : (n : ℕ) → n ≤ 32 → List (View.Piece (Elt F) S512x1536 .bf16)
  | 0, _ => []
  | n + 1, h => ⟨Rect.unit ![16 * n, 0] S16x1536.size (inb_piece n h), shapeCast S16x1536 (w n) shapeCasts_S16x1536_S16x1536⟩ :: pcs w n (Nat.le_of_succ_le h)

theorem pcs_congr {w w' : ℕ → St F} (h : ∀ n, n < 32 → w n = w' n) : ∀ {n : ℕ} (hn : n ≤ 32), pcs w n hn = pcs w' n hn
  | 0, _ => rfl
  | n + 1, hn => by unfold pcs; rw [h n (by omega), pcs_congr h (Nat.le_of_succ_le hn)]

/-- 32 states one under the other. -/
def stack (w : ℕ → St F) : Vec F S512x1536 .bf16 :=
  fun j => w ((j 0).val / 16) (ix2 ⟨(j 0).val % 16, Nat.mod_lt _ (by decide)⟩ (j 1))

/-- The stack depends on its 32 states alone. -/
theorem stack_congr {w w' : ℕ → St F} (h : ∀ n, n < 32 → w n = w' n) : stack w = stack w' := by
  funext j
  have := (j 0).isLt
  change (j 0).val < 512 at this
  unfold stack
  rw [h _ (by omega)]

/-- What the pieces of the first `n` states leave: those states one under the other, and below them what was there. -/
theorem read_pcs {κ : Kind} {sp : Space} (v : View sig κ sp S512x1536 .bf16) (f : v.ty.Contents (Elt F)) (w : ℕ → St F) :
    ∀ (n : ℕ) (hn : n ≤ 32) (j : S512x1536.Idx),
      v.read (Elt F) (v.writes (Elt F) f (pcs w n hn)) j = if (j 0).val < 16 * n then stack w j else v.read (Elt F) f j
  | 0, hn, j => by
    rw [if_neg (by omega)]; rfl
  | n + 1, hn, j => by
    unfold pcs
    rw [View.read_writes_cons_rows v f (size := S16x1536.size) (o := 16 * n) (W := 16) (inb_piece n hn) _ _ j rfl rfl rfl]
    split
    · next hh =>
      rw [if_pos (by omega)]
      rw [shapeCast_self]
      unfold stack
      have e1 : (j 0).val / 16 = n := by omega
      have e2 : (j 0).val % 16 = (j 0).val - 16 * n := by omega
      rw [e1]
      congr 1
      funext a
      fin_cases a
      · exact Fin.ext e2.symm
      · exact Fin.ext (Nat.sub_zero _)
    · next hh =>
      rw [read_pcs v f w n (by omega) j]
      by_cases h1 : (j 0).val < 16 * n
      · rw [if_pos h1, if_pos (by omega)]
      · rw [if_neg h1, if_neg (by omega)]

/-- All 32 states fill the buffer. -/
theorem read_pcs_all {κ : Kind} {sp : Space} (v : View sig κ sp S512x1536 .bf16) (f : v.ty.Contents (Elt F)) (w : ℕ → St F) :
    v.read (Elt F) (v.writes (Elt F) f (pcs w 32 (Nat.le_refl _))) = stack w := by
  funext j
  rw [read_pcs v f w 32 (Nat.le_refl _) j, if_pos]
  have := (j 0).isLt
  change (j 0).val < 512 at this
  omega

/-- The sums over the 16 states of every row of a group, by one product with the selector. -/
def redY (sel : FVec F S32x512 .bf16) (B : Vec F S512x1536 .bf16) : FVec F S32x1536 .f32 := k0_pay1 sel B

/-- The outputs of the scan: row `j` is taken from its group of 32 rows. -/
def ySpec (sel : FVec F S32x512 .bf16) (P : ℕ → St F) : Vec F S512x1536 .f32 :=
  fun j => redY sel (stack fun n => P (32 * ((j 0).val / 32) + n + 1)) (ix2 ⟨(j 0).val % 32, Nat.mod_lt _ (by decide)⟩ (j 1))

end Cert.KernelIdeal.Body

end
-- ==== Proof.KernelIdeal.Front.lean ====
/- The front of a grid point: the normalised and projected rows, the convolution and the gates. -/
module

public import proofs.«01_k».proof.Proof.KernelIdeal.Points
public import proofs.«01_k».proof.Proof.Gen.KernelIdeal.Skeleton

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- The body's statements up to the gates: it returns the values that the rest of the body reads. -/
def front (i : grid0.Coords) (arg2 : Memref sig .tc .vmem S1x512x768 .f32) (harg2 : arg2.IsWhole) (arg3 : Memref sig .tc .vmem S1x768 .f32) (harg3 : arg3.IsWhole) (arg4 : Memref sig .tc .vmem S768x1536 .bf16) (harg4 : arg4.IsWhole) (arg5 : Memref sig .tc .vmem S1x1536 .f32) (harg5 : arg5.IsWhole) (arg6 : Memref sig .tc .vmem S4x1536 .f32) (harg6 : arg6.IsWhole) (arg7 : Memref sig .tc .vmem S16x1536 .f32) (harg7 : arg7.IsWhole) (arg8 : Memref sig .tc .vmem S16x1536 .f32) (harg8 : arg8.IsWhole) (arg9 : Memref sig .tc .vmem S16x1536 .f32) (harg9 : arg9.IsWhole) (arg10 : Memref sig .tc .vmem S1536x768 .bf16) (harg10 : arg10.IsWhole) (arg11 : Memref sig .tc .vmem S1x768 .f32) (harg11 : arg11.IsWhole) (arg12 : Memref sig .tc .vmem S1x512x768 .f32) (harg12 : arg12.IsWhole) (arg13 : Memref sig .tc .vmem S520x1536 .f32) (harg13 : arg13.IsWhole) (arg14 : Memref sig .tc .vmem S512x1536 .f32) (harg14 : arg14.IsWhole) (arg15 : Memref sig .tc .vmem S512x1536 .f32) (harg15 : arg15.IsWhole) (arg16 : Memref sig .tc .vmem S16x1536 .bf16) (harg16 : arg16.IsWhole) (arg17 : Memref sig .tc .vmem S512x1536 .bf16) (harg17 : arg17.IsWhole) (arg18 : Memref sig .tc .vmem S512x1536 .bf16) (harg18 : arg18.IsWhole) :
    Prog (TpuEff nD τ sig (Elt F) Λ₀ .tc) (Σ' (v1 : FVec F S512x768 .f32) (v61 : FVec F S16x1536 .bf16) (v68 : FVec F S16x1536 .f32) (v69 : IVec S32x512 32) (v70 : IVec S32x512 32) (c16_i32 : BitVec 32), IVec S32x512 32) := do
  let ⟨v1, v23, v33⟩ : Σ' (v1 : FVec F S512x768 .f32) (v23 : FVec F S512x1536 .f32), Vec F S512x1536 .f32 ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
  let ⟨v61, v68, v69, v70, c16_i32, v71⟩ : Σ' (v61 : FVec F S16x1536 .bf16) (v68 : FVec F S16x1536 .f32) (v69 : IVec S32x512 32) (v70 : IVec S32x512 32) (c16_i32 : BitVec 32), IVec S32x512 32 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v23 v33
  pure ⟨v1, v61, v68, v69, v70, c16_i32, v71⟩

set_option maxHeartbeats 4000000 in
/-- The front of one point at the start of a sequence, where the carried rows and the carried state are cleared first: the values it hands on and the pieces it writes, found by the run. -/
noncomputable def frontA (c : Dev nD) (i : grid0.Coords) (arg2 : Memref sig .tc .vmem S1x512x768 .f32) (harg2 : arg2.IsWhole) (arg3 : Memref sig .tc .vmem S1x768 .f32) (harg3 : arg3.IsWhole) (arg4 : Memref sig .tc .vmem S768x1536 .bf16) (harg4 : arg4.IsWhole) (arg5 : Memref sig .tc .vmem S1x1536 .f32) (harg5 : arg5.IsWhole) (arg6 : Memref sig .tc .vmem S4x1536 .f32) (harg6 : arg6.IsWhole) (arg7 : Memref sig .tc .vmem S16x1536 .f32) (harg7 : arg7.IsWhole) (arg8 : Memref sig .tc .vmem S16x1536 .f32) (harg8 : arg8.IsWhole) (arg9 : Memref sig .tc .vmem S16x1536 .f32) (harg9 : arg9.IsWhole) (arg10 : Memref sig .tc .vmem S1536x768 .bf16) (harg10 : arg10.IsWhole) (arg11 : Memref sig .tc .vmem S1x768 .f32) (harg11 : arg11.IsWhole) (arg12 : Memref sig .tc .vmem S1x512x768 .f32) (harg12 : arg12.IsWhole) (arg13 : Memref sig .tc .vmem S520x1536 .f32) (harg13 : arg13.IsWhole) (arg14 : Memref sig .tc .vmem S512x1536 .f32) (harg14 : arg14.IsWhole) (arg15 : Memref sig .tc .vmem S512x1536 .f32) (harg15 : arg15.IsWhole) (arg16 : Memref sig .tc .vmem S16x1536 .bf16) (harg16 : arg16.IsWhole) (arg17 : Memref sig .tc .vmem S512x1536 .bf16) (harg17 : arg17.IsWhole) (arg18 : Memref sig .tc .vmem S512x1536 .bf16) (harg18 : arg18.IsWhole) (hc0 : startsSeq i) (hc1 : ¬insideSeq i)
    (x0 : Vec F S1x512x768 .f32) (x1 : Vec F S1x768 .f32) (x2 : Vec F S768x1536 .bf16) (x3 : Vec F S1x1536 .f32) (x4 : Vec F S4x1536 .f32) (x5 : Vec F S16x1536 .f32) (x6 : Vec F S16x1536 .f32) (x7 : Vec F S16x1536 .f32) :
    Σ' (r : Σ' (v1 : FVec F S512x768 .f32) (v61 : FVec F S16x1536 .bf16) (v68 : FVec F S16x1536 .f32) (v69 : IVec S32x512 32) (v70 : IVec S32x512 32) (c16_i32 : BitVec 32), IVec S32x512 32) (L13 : List (View.Piece (Elt F) S520x1536 .f32)) (L14 : List (View.Piece (Elt F) S512x1536 .f32)), { L16 : List (View.Piece (Elt F) S16x1536 .bf16) //
      ∀ (E : Set ℕ) (K : (Σ' (v1 : FVec F S512x768 .f32) (v61 : FVec F S16x1536 .bf16) (v68 : FVec F S16x1536 .f32) (v69 : IVec S32x512 32) (v70 : IVec S32x512 32) (c16_i32 : BitVec 32), IVec S32x512 32) → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg13 fullShare d) ∗ (∃ d, owns (c : Thread nD τ) arg14 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, (arg13.view.loc (c : Thread nD τ) ↦[arg13.view.set]{fullShare} arg13.view.writes (Elt F) f (L13))) ∗ (∃ f, (arg14.view.loc (c : Thread nD τ) ↦[arg14.view.set]{fullShare} arg14.view.writes (Elt F) f (L14))) ∗ (∃ f, (arg16.view.loc (c : Thread nD τ) ↦[arg16.view.set]{fullShare} arg16.view.writes (Elt F) f (L16)))) -∗ K r))
          ⊢ wp frame (wpE (defs₀ (F := F)) Variants.none c none) E (front i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K => ?run⟩
  case run =>
    unfold front
    simp only [k0_part14_eq_skeleton, k0_part15_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d13, %f13, -, H13⟩, ⟨%d14, %f14, -, H14⟩, ⟨%d16, %f16, -, H16⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H13]; · iexists _; iexact H13
    isplitl [H14]; · iexists _; iexact H14
    iexists _; iexact H16

set_option maxHeartbeats 4000000 in
/-- The front of one point inside a sequence, where the last rows of the point before are moved to the top first: the values it hands on and the pieces it writes, found by the run. -/
noncomputable def frontB (c : Dev nD) (i : grid0.Coords) (arg2 : Memref sig .tc .vmem S1x512x768 .f32) (harg2 : arg2.IsWhole) (arg3 : Memref sig .tc .vmem S1x768 .f32) (harg3 : arg3.IsWhole) (arg4 : Memref sig .tc .vmem S768x1536 .bf16) (harg4 : arg4.IsWhole) (arg5 : Memref sig .tc .vmem S1x1536 .f32) (harg5 : arg5.IsWhole) (arg6 : Memref sig .tc .vmem S4x1536 .f32) (harg6 : arg6.IsWhole) (arg7 : Memref sig .tc .vmem S16x1536 .f32) (harg7 : arg7.IsWhole) (arg8 : Memref sig .tc .vmem S16x1536 .f32) (harg8 : arg8.IsWhole) (arg9 : Memref sig .tc .vmem S16x1536 .f32) (harg9 : arg9.IsWhole) (arg10 : Memref sig .tc .vmem S1536x768 .bf16) (harg10 : arg10.IsWhole) (arg11 : Memref sig .tc .vmem S1x768 .f32) (harg11 : arg11.IsWhole) (arg12 : Memref sig .tc .vmem S1x512x768 .f32) (harg12 : arg12.IsWhole) (arg13 : Memref sig .tc .vmem S520x1536 .f32) (harg13 : arg13.IsWhole) (arg14 : Memref sig .tc .vmem S512x1536 .f32) (harg14 : arg14.IsWhole) (arg15 : Memref sig .tc .vmem S512x1536 .f32) (harg15 : arg15.IsWhole) (arg16 : Memref sig .tc .vmem S16x1536 .bf16) (harg16 : arg16.IsWhole) (arg17 : Memref sig .tc .vmem S512x1536 .bf16) (harg17 : arg17.IsWhole) (arg18 : Memref sig .tc .vmem S512x1536 .bf16) (harg18 : arg18.IsWhole) (hc0 : ¬startsSeq i) (hc1 : insideSeq i)
    (x0 : Vec F S1x512x768 .f32) (x1 : Vec F S1x768 .f32) (x2 : Vec F S768x1536 .bf16) (x3 : Vec F S1x1536 .f32) (x4 : Vec F S4x1536 .f32) (x5 : Vec F S16x1536 .f32) (x6 : Vec F S16x1536 .f32) (x7 : Vec F S16x1536 .f32) (xs0 : Vec F S520x1536 .f32) :
    Σ' (r : Σ' (v1 : FVec F S512x768 .f32) (v61 : FVec F S16x1536 .bf16) (v68 : FVec F S16x1536 .f32) (v69 : IVec S32x512 32) (v70 : IVec S32x512 32) (c16_i32 : BitVec 32), IVec S32x512 32) (L13 : List (View.Piece (Elt F) S520x1536 .f32)), { L14 : List (View.Piece (Elt F) S512x1536 .f32) //
      ∀ (E : Set ℕ) (K : (Σ' (v1 : FVec F S512x768 .f32) (v61 : FVec F S16x1536 .bf16) (v68 : FVec F S16x1536 .f32) (v69 : IVec S32x512 32) (v70 : IVec S32x512 32) (c16_i32 : BitVec 32), IVec S32x512 32) → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg13 fullShare xs0 ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, (arg13.view.loc (c : Thread nD τ) ↦[arg13.view.set]{fullShare} arg13.view.writes (Elt F) f (L13))) ∗ (∃ f, (arg14.view.loc (c : Thread nD τ) ↦[arg14.view.set]{fullShare} arg14.view.writes (Elt F) f (L14)))) -∗ K r))
          ⊢ wp frame (wpE (defs₀ (F := F)) Variants.none c none) E (front i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    unfold front
    simp only [k0_part14_eq_skeleton, k0_part15_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f13, %hf13, H13⟩, ⟨%d14, %f14, -, H14⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg13.eq_unread hf13
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H13]; · iexists _; iexact H13
    iexists _; iexact H14

end Cert.KernelIdeal.Body

end
-- ==== Proof.KernelIdeal.FrontEq.lean ====
/- The first half of a grid point: the projected rows, the convolution and the gates as functions of the blocks. -/
module

public import proofs.«01_k».proof.Proof.KernelIdeal.Points
public import proofs.«01_k».proof.Proof.KernelIdeal.Spec
public import proofs.«01_k».proof.Proof.KernelIdeal.Front
public import Idealize.ShloMosaic.Lib.VecWindow

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- The 520 rows: 8 rows before the block, then the block's 512. -/
def xpsOf (tail : Vec F S8x1536 .f32) (xp : FVec F S512x1536 .f32) : Vec F S520x1536 .f32 :=
  fun j => if h : (j 0).val < 8 then tail (ix2 ⟨(j 0).val, h⟩ (j 1))
    else xp (ix2 ⟨(j 0).val - 8, by have := (j 0).isLt; change (j 0).val < 520 at this; omega⟩ (j 1))

/-- Rows `o` to `o + 511` of the 520. -/
def rows512 (xs : Vec F S520x1536 .f32) (o : ℕ) : Vec F S512x1536 .f32 :=
  fun j => xs (ix2 ⟨(o + (j 0).val) % 520, Nat.mod_lt _ (by decide)⟩ (j 1))

/-- The last 8 of the 520 rows. -/
def rows8 (xs : Vec F S520x1536 .f32) : Vec F S8x1536 .f32 :=
  fun j => xs (ix2 ⟨(512 + (j 0).val) % 520, Nat.mod_lt _ (by decide)⟩ (j 1))

/-- Row `k` of the four convolution rows. -/
def wRow (x4 : Vec F S4x1536 .f32) (k : Fin 4) : Vec F S1x1536 .f32 := fun j => x4 (ix2 k (j 1))

/-- The convolution of the 520 rows. -/
def xcOf (xp : FVec F S512x1536 .f32) (xs : Vec F S520x1536 .f32) (x4 : Vec F S4x1536 .f32) : Vec F S512x1536 .f32 :=
  (k0_pay141 xp (rows512 xs 5) (wRow x4 0) (rows512 xs 6) (wRow x4 1) (rows512 xs 7) (wRow x4 2) (wRow x4 3))

/-- The two stores of the 520 rows leave them. -/
theorem read_xps {κ : Kind} {sp : Space} (v : View sig κ sp S520x1536 .f32) (f : v.ty.Contents (Elt F)) (tail : Vec F S8x1536 .f32) (xp : FVec F S512x1536 .f32) :
    v.read (Elt F) (v.writes (Elt F) f [⟨Rect.unit (s := S520x1536) ![8, 0] S512x1536.size inb_S520x1536_S512x1536_8_0, xp⟩, ⟨Rect.unit (s := S520x1536) ![0, 0] S8x1536.size inb_S520x1536_S8x1536_0_0, tail⟩])
      = xpsOf tail xp := by
  funext j
  have hj := (j 0).isLt
  change (j 0).val < 520 at hj
  unfold xpsOf
  rw [View.read_writes_cons_rows v _ (size := S512x1536.size) (o := 8) (W := 512) _ _ _ j rfl rfl rfl]
  split
  · next hh =>
    rw [dif_neg (by omega)]
    congr 1
    funext a
    fin_cases a
    · exact Fin.ext rfl
    · exact Fin.ext (Nat.sub_zero _)
  · next hh =>
    rw [dif_pos (by omega), View.read_writes_cons_rows v _ (size := S8x1536.size) (o := 0) (W := 8) _ _ _ j rfl rfl rfl, dif_pos (by omega)]
    congr 1
    funext a
    fin_cases a
    · exact Fin.ext (Nat.sub_zero _)
    · exact Fin.ext (Nat.sub_zero _)

/-- A load of 512 of the 520 rows. -/
theorem readAt_rows512 {κ : Kind} {sp : Space} (v : View sig κ sp S520x1536 .f32) (X : v.ty.Contents (Elt F)) (o : ℕ)
    (inb : ∀ a, (![o, 0] : Fin 2 → ℕ) a + S512x1536.size a ≤ S520x1536.size a) :
    v.readAt (Elt F) (Rect.unit (s := S520x1536) ![o, 0] S512x1536.size inb).toLoadRect X = rows512 (v.read (Elt F) X) o := by
  funext j
  have h0 := inb 0
  change o + 512 ≤ 520 at h0
  have hj := (j 0).isLt
  change (j 0).val < 512 at hj
  show v.read (Elt F) X _ = v.read (Elt F) X _
  congr 1
  funext a
  fin_cases a
  · refine Fin.ext ?_
    show o + 1 * (j 0).val = (o + (j 0).val) % 520
    rw [Nat.mod_eq_of_lt (by omega)]; omega
  · refine Fin.ext ?_
    show 0 + 1 * (j 1).val = (j 1).val
    omega

/-- A load of the last 8 rows. -/
theorem readAt_rows8 {κ : Kind} {sp : Space} (v : View sig κ sp S520x1536 .f32) (X : v.ty.Contents (Elt F))
    (inb : ∀ a, (![512, 0] : Fin 2 → ℕ) a + S8x1536.size a ≤ S520x1536.size a) :
    v.readAt (Elt F) (Rect.unit (s := S520x1536) ![512, 0] S8x1536.size inb).toLoadRect X = rows8 (v.read (Elt F) X) := by
  funext j
  have hj := (j 0).isLt
  change (j 0).val < 8 at hj
  show v.read (Elt F) X _ = v.read (Elt F) X _
  congr 1
  funext a
  fin_cases a
  · refine Fin.ext ?_
    show 512 + 1 * (j 0).val = (512 + (j 0).val) % 520
    rw [Nat.mod_eq_of_lt (by omega)]; omega
  · refine Fin.ext ?_
    show 0 + 1 * (j 1).val = (j 1).val
    omega

/-- A load of one convolution row. -/
theorem readAt_wRow {κ : Kind} {sp : Space} (v : View sig κ sp S4x1536 .f32) (X : v.ty.Contents (Elt F)) (k : Fin 4) (o : ℕ) (ho : o = k.val)
    (inb : ∀ a, (![o, 0] : Fin 2 → ℕ) a + S1x1536.size a ≤ S4x1536.size a) :
    v.readAt (Elt F) (Rect.unit (s := S4x1536) ![o, 0] S1x1536.size inb).toLoadRect X = wRow (v.read (Elt F) X) k := by
  subst ho
  funext j
  have hj := (j 0).isLt
  change (j 0).val < 1 at hj
  show v.read (Elt F) X _ = v.read (Elt F) X _
  congr 1
  funext a
  fin_cases a
  · refine Fin.ext ?_
    show k.val + 1 * (j 0).val = k.val
    omega
  · refine Fin.ext ?_
    show 0 + 1 * (j 1).val = (j 1).val
    omega

/-- The selector of the 16 states of each row. -/
def selW : FVec F S32x512 .bf16 :=
  k0_pay145 (iota .tc S32x512 32 [0] iota_S32x512_d0_w32) (iota .tc S32x512 32 [1] iota_S32x512_d1_w32) 16#32 k0_pay144

/-- The values handed on. -/
theorem frontA_r (c : Dev nD) (i : grid0.Coords) (arg2 : Memref sig .tc .vmem S1x512x768 .f32) (harg2 : arg2.IsWhole) (arg3 : Memref sig .tc .vmem S1x768 .f32) (harg3 : arg3.IsWhole) (arg4 : Memref sig .tc .vmem S768x1536 .bf16) (harg4 : arg4.IsWhole) (arg5 : Memref sig .tc .vmem S1x1536 .f32) (harg5 : arg5.IsWhole) (arg6 : Memref sig .tc .vmem S4x1536 .f32) (harg6 : arg6.IsWhole) (arg7 : Memref sig .tc .vmem S16x1536 .f32) (harg7 : arg7.IsWhole) (arg8 : Memref sig .tc .vmem S16x1536 .f32) (harg8 : arg8.IsWhole) (arg9 : Memref sig .tc .vmem S16x1536 .f32) (harg9 : arg9.IsWhole) (arg10 : Memref sig .tc .vmem S1536x768 .bf16) (harg10 : arg10.IsWhole) (arg11 : Memref sig .tc .vmem S1x768 .f32) (harg11 : arg11.IsWhole) (arg12 : Memref sig .tc .vmem S1x512x768 .f32) (harg12 : arg12.IsWhole) (arg13 : Memref sig .tc .vmem S520x1536 .f32) (harg13 : arg13.IsWhole) (arg14 : Memref sig .tc .vmem S512x1536 .f32) (harg14 : arg14.IsWhole) (arg15 : Memref sig .tc .vmem S512x1536 .f32) (harg15 : arg15.IsWhole) (arg16 : Memref sig .tc .vmem S16x1536 .bf16) (harg16 : arg16.IsWhole) (arg17 : Memref sig .tc .vmem S512x1536 .bf16) (harg17 : arg17.IsWhole) (arg18 : Memref sig .tc .vmem S512x1536 .bf16) (harg18 : arg18.IsWhole) (hc0 : startsSeq i) (hc1 : ¬insideSeq i) (x0 : Vec F S1x512x768 .f32) (x1 : Vec F S1x768 .f32) (x2 : Vec F S768x1536 .bf16) (x3 : Vec F S1x1536 .f32) (x4 : Vec F S4x1536 .f32) (x5 : Vec F S16x1536 .f32) (x6 : Vec F S16x1536 .f32) (x7 : Vec F S16x1536 .f32) :
    (frontA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7).1 = ⟨k0_pay135 x0, k0_pay142 x5, k0_pay143 x6 x7, iota .tc S32x512 32 [0] iota_S32x512_d0_w32, iota .tc S32x512 32 [1] iota_S32x512_d1_w32, 16#32, k0_pay144⟩ := by
  have e : (frontA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7).1 = ⟨k0_pay135 (arg2.view.readAt (Elt F) (Rect.unit (s := S1x512x768) ![0, 0, 0] S1x512x768.size inb_S1x512x768_S1x512x768_0_0_0).toLoadRect (harg2.unread x0)),
      k0_pay142 (arg7.view.readAt (Elt F) (Rect.unit (s := S16x1536) ![0, 0] S16x1536.size inb_S16x1536_S16x1536_0_0).toLoadRect (harg7.unread x5)),
      k0_pay143 (arg8.view.readAt (Elt F) (Rect.unit (s := S16x1536) ![0, 0] S16x1536.size inb_S16x1536_S16x1536_0_0).toLoadRect (harg8.unread x6))
        (arg9.view.readAt (Elt F) (Rect.unit (s := S16x1536) ![0, 0] S16x1536.size inb_S16x1536_S16x1536_0_0).toLoadRect (harg9.unread x7)),
      iota .tc S32x512 32 [0] iota_S32x512_d0_w32, iota .tc S32x512 32 [1] iota_S32x512_d1_w32, 16#32, k0_pay144⟩ := by
    unfold frontA
    rfl
  rw [e, View.readAt_full, View.readAt_full, View.readAt_full, View.readAt_full, harg2.read_unread, harg7.read_unread, harg8.read_unread, harg9.read_unread]

/-- The 520 rows the first half leaves. -/
theorem frontA_xs (c : Dev nD) (i : grid0.Coords) (arg2 : Memref sig .tc .vmem S1x512x768 .f32) (harg2 : arg2.IsWhole) (arg3 : Memref sig .tc .vmem S1x768 .f32) (harg3 : arg3.IsWhole) (arg4 : Memref sig .tc .vmem S768x1536 .bf16) (harg4 : arg4.IsWhole) (arg5 : Memref sig .tc .vmem S1x1536 .f32) (harg5 : arg5.IsWhole) (arg6 : Memref sig .tc .vmem S4x1536 .f32) (harg6 : arg6.IsWhole) (arg7 : Memref sig .tc .vmem S16x1536 .f32) (harg7 : arg7.IsWhole) (arg8 : Memref sig .tc .vmem S16x1536 .f32) (harg8 : arg8.IsWhole) (arg9 : Memref sig .tc .vmem S16x1536 .f32) (harg9 : arg9.IsWhole) (arg10 : Memref sig .tc .vmem S1536x768 .bf16) (harg10 : arg10.IsWhole) (arg11 : Memref sig .tc .vmem S1x768 .f32) (harg11 : arg11.IsWhole) (arg12 : Memref sig .tc .vmem S1x512x768 .f32) (harg12 : arg12.IsWhole) (arg13 : Memref sig .tc .vmem S520x1536 .f32) (harg13 : arg13.IsWhole) (arg14 : Memref sig .tc .vmem S512x1536 .f32) (harg14 : arg14.IsWhole) (arg15 : Memref sig .tc .vmem S512x1536 .f32) (harg15 : arg15.IsWhole) (arg16 : Memref sig .tc .vmem S16x1536 .bf16) (harg16 : arg16.IsWhole) (arg17 : Memref sig .tc .vmem S512x1536 .bf16) (harg17 : arg17.IsWhole) (arg18 : Memref sig .tc .vmem S512x1536 .bf16) (harg18 : arg18.IsWhole) (hc0 : startsSeq i) (hc1 : ¬insideSeq i) (x0 : Vec F S1x512x768 .f32) (x1 : Vec F S1x768 .f32) (x2 : Vec F S768x1536 .bf16) (x3 : Vec F S1x1536 .f32) (x4 : Vec F S4x1536 .f32) (x5 : Vec F S16x1536 .f32) (x6 : Vec F S16x1536 .f32) (x7 : Vec F S16x1536 .f32) (f : arg13.view.ty.Contents (Elt F)) :
    arg13.view.read (Elt F) (arg13.view.writes (Elt F) f (frontA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7).2.1) = xpsOf k0_pay137 (k0_pay140 x0 x1 x2 x3) := by
  have e : (frontA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7).2.1 = [⟨Rect.unit (s := S520x1536) ![8, 0] S512x1536.size inb_S520x1536_S512x1536_8_0, k0_pay140 (arg2.view.readAt (Elt F) (Rect.unit (s := S1x512x768) ![0, 0, 0] S1x512x768.size inb_S1x512x768_S1x512x768_0_0_0).toLoadRect (harg2.unread x0))
      (arg3.view.readAt (Elt F) (Rect.unit (s := S1x768) ![0, 0] S1x768.size inb_S1x768_S1x768_0_0).toLoadRect (harg3.unread x1))
      (arg4.view.readAt (Elt F) (Rect.unit (s := S768x1536) ![0, 0] S768x1536.size inb_S768x1536_S768x1536_0_0).toLoadRect (harg4.unread x2))
      (arg5.view.readAt (Elt F) (Rect.unit (s := S1x1536) ![0, 0] S1x1536.size inb_S1x1536_S1x1536_0_0).toLoadRect (harg5.unread x3))⟩,
      ⟨Rect.unit (s := S520x1536) ![0, 0] S8x1536.size inb_S520x1536_S8x1536_0_0, k0_pay137⟩] := by
    unfold frontA
    rfl
  rw [e, read_xps, View.readAt_full, View.readAt_full, View.readAt_full, View.readAt_full, harg2.read_unread, harg3.read_unread, harg4.read_unread, harg5.read_unread]

/-- The convolution the first half leaves. -/
theorem frontA_xc (c : Dev nD) (i : grid0.Coords) (arg2 : Memref sig .tc .vmem S1x512x768 .f32) (harg2 : arg2.IsWhole) (arg3 : Memref sig .tc .vmem S1x768 .f32) (harg3 : arg3.IsWhole) (arg4 : Memref sig .tc .vmem S768x1536 .bf16) (harg4 : arg4.IsWhole) (arg5 : Memref sig .tc .vmem S1x1536 .f32) (harg5 : arg5.IsWhole) (arg6 : Memref sig .tc .vmem S4x1536 .f32) (harg6 : arg6.IsWhole) (arg7 : Memref sig .tc .vmem S16x1536 .f32) (harg7 : arg7.IsWhole) (arg8 : Memref sig .tc .vmem S16x1536 .f32) (harg8 : arg8.IsWhole) (arg9 : Memref sig .tc .vmem S16x1536 .f32) (harg9 : arg9.IsWhole) (arg10 : Memref sig .tc .vmem S1536x768 .bf16) (harg10 : arg10.IsWhole) (arg11 : Memref sig .tc .vmem S1x768 .f32) (harg11 : arg11.IsWhole) (arg12 : Memref sig .tc .vmem S1x512x768 .f32) (harg12 : arg12.IsWhole) (arg13 : Memref sig .tc .vmem S520x1536 .f32) (harg13 : arg13.IsWhole) (arg14 : Memref sig .tc .vmem S512x1536 .f32) (harg14 : arg14.IsWhole) (arg15 : Memref sig .tc .vmem S512x1536 .f32) (harg15 : arg15.IsWhole) (arg16 : Memref sig .tc .vmem S16x1536 .bf16) (harg16 : arg16.IsWhole) (arg17 : Memref sig .tc .vmem S512x1536 .bf16) (harg17 : arg17.IsWhole) (arg18 : Memref sig .tc .vmem S512x1536 .bf16) (harg18 : arg18.IsWhole) (hc0 : startsSeq i) (hc1 : ¬insideSeq i) (x0 : Vec F S1x512x768 .f32) (x1 : Vec F S1x768 .f32) (x2 : Vec F S768x1536 .bf16) (x3 : Vec F S1x1536 .f32) (x4 : Vec F S4x1536 .f32) (x5 : Vec F S16x1536 .f32) (x6 : Vec F S16x1536 .f32) (x7 : Vec F S16x1536 .f32) (f : arg14.view.ty.Contents (Elt F)) :
    arg14.view.read (Elt F) (arg14.view.writes (Elt F) f (frontA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7).2.2.1) = xcOf (k0_pay136 x0 x1 x2 x3) (xpsOf k0_pay137 (k0_pay140 x0 x1 x2 x3)) x4 := by
  have e13 : arg13.view.read (Elt F) (arg13.view.writes (Elt F) arg13.view.junk (frontA.sl.H13_2 c arg2 harg2 arg3 harg3 arg4 harg4 arg5 harg5 x0 x1 x2 x3)) = xpsOf k0_pay137 (k0_pay140 x0 x1 x2 x3) :=
    (congrArg (fun L => arg13.view.read (Elt F) (arg13.view.writes (Elt F) arg13.view.junk L)) (by unfold frontA; rfl)).trans (frontA_xs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 arg13.view.junk)
  have e5 : frontA.sl.v33 c arg2 harg2 arg3 harg3 arg4 harg4 arg5 harg5 arg13 x0 x1 x2 x3 = rows512 (xpsOf k0_pay137 (k0_pay140 x0 x1 x2 x3)) 5 :=
    (readAt_rows512 arg13.view (arg13.view.writes (Elt F) arg13.view.junk (frontA.sl.H13_2 c arg2 harg2 arg3 harg3 arg4 harg4 arg5 harg5 x0 x1 x2 x3)) 5 inb_S520x1536_S512x1536_5_0).trans (by rw [e13])
  have e6 : frontA.sl.v38 c arg2 harg2 arg3 harg3 arg4 harg4 arg5 harg5 arg13 x0 x1 x2 x3 = rows512 (xpsOf k0_pay137 (k0_pay140 x0 x1 x2 x3)) 6 :=
    (readAt_rows512 arg13.view (arg13.view.writes (Elt F) arg13.view.junk (frontA.sl.H13_2 c arg2 harg2 arg3 harg3 arg4 harg4 arg5 harg5 x0 x1 x2 x3)) 6 inb_S520x1536_S512x1536_6_0).trans (by rw [e13])
  have e7 : frontA.sl.v44 c arg2 harg2 arg3 harg3 arg4 harg4 arg5 harg5 arg13 x0 x1 x2 x3 = rows512 (xpsOf k0_pay137 (k0_pay140 x0 x1 x2 x3)) 7 :=
    (readAt_rows512 arg13.view (arg13.view.writes (Elt F) arg13.view.junk (frontA.sl.H13_2 c arg2 harg2 arg3 harg3 arg4 harg4 arg5 harg5 x0 x1 x2 x3)) 7 inb_S520x1536_S512x1536_7_0).trans (by rw [e13])
  have e : (frontA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7).2.2.1 = [⟨Rect.unit (s := S512x1536) ![0, 0] S512x1536.size inb_S512x1536_S512x1536_0_0, k0_pay141 (k0_pay136 (arg2.view.readAt (Elt F) (Rect.unit (s := S1x512x768) ![0, 0, 0] S1x512x768.size inb_S1x512x768_S1x512x768_0_0_0).toLoadRect (harg2.unread x0))
      (arg3.view.readAt (Elt F) (Rect.unit (s := S1x768) ![0, 0] S1x768.size inb_S1x768_S1x768_0_0).toLoadRect (harg3.unread x1))
      (arg4.view.readAt (Elt F) (Rect.unit (s := S768x1536) ![0, 0] S768x1536.size inb_S768x1536_S768x1536_0_0).toLoadRect (harg4.unread x2))
      (arg5.view.readAt (Elt F) (Rect.unit (s := S1x1536) ![0, 0] S1x1536.size inb_S1x1536_S1x1536_0_0).toLoadRect (harg5.unread x3)))
      (frontA.sl.v33 c arg2 harg2 arg3 harg3 arg4 harg4 arg5 harg5 arg13 x0 x1 x2 x3) (arg6.view.readAt (Elt F) (Rect.unit (s := S4x1536) ![0, 0] S1x1536.size inb_S4x1536_S1x1536_0_0).toLoadRect (harg6.unread x4))
      (frontA.sl.v38 c arg2 harg2 arg3 harg3 arg4 harg4 arg5 harg5 arg13 x0 x1 x2 x3) (arg6.view.readAt (Elt F) (Rect.unit (s := S4x1536) ![1, 0] S1x1536.size inb_S4x1536_S1x1536_1_0).toLoadRect (harg6.unread x4))
      (frontA.sl.v44 c arg2 harg2 arg3 harg3 arg4 harg4 arg5 harg5 arg13 x0 x1 x2 x3) (arg6.view.readAt (Elt F) (Rect.unit (s := S4x1536) ![2, 0] S1x1536.size inb_S4x1536_S1x1536_2_0).toLoadRect (harg6.unread x4))
      (arg6.view.readAt (Elt F) (Rect.unit (s := S4x1536) ![3, 0] S1x1536.size inb_S4x1536_S1x1536_3_0).toLoadRect (harg6.unread x4))⟩] := by
    unfold frontA
    rfl
  rw [e, View.read_writes_full, e5, e6, e7, readAt_wRow arg6.view _ 0 0 rfl, readAt_wRow arg6.view _ 1 1 rfl, readAt_wRow arg6.view _ 2 2 rfl, readAt_wRow arg6.view _ 3 3 rfl,
    View.readAt_full, View.readAt_full, View.readAt_full, View.readAt_full, harg2.read_unread, harg3.read_unread, harg4.read_unread, harg5.read_unread, harg6.read_unread]
  rfl

/-- The first state of a sequence. -/
theorem frontA_h (c : Dev nD) (i : grid0.Coords) (arg2 : Memref sig .tc .vmem S1x512x768 .f32) (harg2 : arg2.IsWhole) (arg3 : Memref sig .tc .vmem S1x768 .f32) (harg3 : arg3.IsWhole) (arg4 : Memref sig .tc .vmem S768x1536 .bf16) (harg4 : arg4.IsWhole) (arg5 : Memref sig .tc .vmem S1x1536 .f32) (harg5 : arg5.IsWhole) (arg6 : Memref sig .tc .vmem S4x1536 .f32) (harg6 : arg6.IsWhole) (arg7 : Memref sig .tc .vmem S16x1536 .f32) (harg7 : arg7.IsWhole) (arg8 : Memref sig .tc .vmem S16x1536 .f32) (harg8 : arg8.IsWhole) (arg9 : Memref sig .tc .vmem S16x1536 .f32) (harg9 : arg9.IsWhole) (arg10 : Memref sig .tc .vmem S1536x768 .bf16) (harg10 : arg10.IsWhole) (arg11 : Memref sig .tc .vmem S1x768 .f32) (harg11 : arg11.IsWhole) (arg12 : Memref sig .tc .vmem S1x512x768 .f32) (harg12 : arg12.IsWhole) (arg13 : Memref sig .tc .vmem S520x1536 .f32) (harg13 : arg13.IsWhole) (arg14 : Memref sig .tc .vmem S512x1536 .f32) (harg14 : arg14.IsWhole) (arg15 : Memref sig .tc .vmem S512x1536 .f32) (harg15 : arg15.IsWhole) (arg16 : Memref sig .tc .vmem S16x1536 .bf16) (harg16 : arg16.IsWhole) (arg17 : Memref sig .tc .vmem S512x1536 .bf16) (harg17 : arg17.IsWhole) (arg18 : Memref sig .tc .vmem S512x1536 .bf16) (harg18 : arg18.IsWhole) (hc0 : startsSeq i) (hc1 : ¬insideSeq i) (x0 : Vec F S1x512x768 .f32) (x1 : Vec F S1x768 .f32) (x2 : Vec F S768x1536 .bf16) (x3 : Vec F S1x1536 .f32) (x4 : Vec F S4x1536 .f32) (x5 : Vec F S16x1536 .f32) (x6 : Vec F S16x1536 .f32) (x7 : Vec F S16x1536 .f32) (f : arg16.view.ty.Contents (Elt F)) :
    arg16.view.read (Elt F) (arg16.view.writes (Elt F) f (frontA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7).2.2.2.val) = k0_pay138 := by
  have e : (frontA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7).2.2.2.val = [⟨Rect.unit (s := S16x1536) ![0, 0] S16x1536.size inb_S16x1536_S16x1536_0_0, k0_pay138⟩] := by
    unfold frontA
    rfl
  rw [e, View.read_writes_full]

/-- The values handed on. -/
theorem frontB_r (c : Dev nD) (i : grid0.Coords) (arg2 : Memref sig .tc .vmem S1x512x768 .f32) (harg2 : arg2.IsWhole) (arg3 : Memref sig .tc .vmem S1x768 .f32) (harg3 : arg3.IsWhole) (arg4 : Memref sig .tc .vmem S768x1536 .bf16) (harg4 : arg4.IsWhole) (arg5 : Memref sig .tc .vmem S1x1536 .f32) (harg5 : arg5.IsWhole) (arg6 : Memref sig .tc .vmem S4x1536 .f32) (harg6 : arg6.IsWhole) (arg7 : Memref sig .tc .vmem S16x1536 .f32) (harg7 : arg7.IsWhole) (arg8 : Memref sig .tc .vmem S16x1536 .f32) (harg8 : arg8.IsWhole) (arg9 : Memref sig .tc .vmem S16x1536 .f32) (harg9 : arg9.IsWhole) (arg10 : Memref sig .tc .vmem S1536x768 .bf16) (harg10 : arg10.IsWhole) (arg11 : Memref sig .tc .vmem S1x768 .f32) (harg11 : arg11.IsWhole) (arg12 : Memref sig .tc .vmem S1x512x768 .f32) (harg12 : arg12.IsWhole) (arg13 : Memref sig .tc .vmem S520x1536 .f32) (harg13 : arg13.IsWhole) (arg14 : Memref sig .tc .vmem S512x1536 .f32) (harg14 : arg14.IsWhole) (arg15 : Memref sig .tc .vmem S512x1536 .f32) (harg15 : arg15.IsWhole) (arg16 : Memref sig .tc .vmem S16x1536 .bf16) (harg16 : arg16.IsWhole) (arg17 : Memref sig .tc .vmem S512x1536 .bf16) (harg17 : arg17.IsWhole) (arg18 : Memref sig .tc .vmem S512x1536 .bf16) (harg18 : arg18.IsWhole) (hc0 : ¬startsSeq i) (hc1 : insideSeq i) (x0 : Vec F S1x512x768 .f32) (x1 : Vec F S1x768 .f32) (x2 : Vec F S768x1536 .bf16) (x3 : Vec F S1x1536 .f32) (x4 : Vec F S4x1536 .f32) (x5 : Vec F S16x1536 .f32) (x6 : Vec F S16x1536 .f32) (x7 : Vec F S16x1536 .f32) (xs0 : Vec F S520x1536 .f32) :
    (frontB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs0).1 = ⟨k0_pay135 x0, k0_pay142 x5, k0_pay143 x6 x7, iota .tc S32x512 32 [0] iota_S32x512_d0_w32, iota .tc S32x512 32 [1] iota_S32x512_d1_w32, 16#32, k0_pay144⟩ := by
  have e : (frontB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs0).1 = ⟨k0_pay135 (arg2.view.readAt (Elt F) (Rect.unit (s := S1x512x768) ![0, 0, 0] S1x512x768.size inb_S1x512x768_S1x512x768_0_0_0).toLoadRect (harg2.unread x0)),
      k0_pay142 (arg7.view.readAt (Elt F) (Rect.unit (s := S16x1536) ![0, 0] S16x1536.size inb_S16x1536_S16x1536_0_0).toLoadRect (harg7.unread x5)),
      k0_pay143 (arg8.view.readAt (Elt F) (Rect.unit (s := S16x1536) ![0, 0] S16x1536.size inb_S16x1536_S16x1536_0_0).toLoadRect (harg8.unread x6))
        (arg9.view.readAt (Elt F) (Rect.unit (s := S16x1536) ![0, 0] S16x1536.size inb_S16x1536_S16x1536_0_0).toLoadRect (harg9.unread x7)),
      iota .tc S32x512 32 [0] iota_S32x512_d0_w32, iota .tc S32x512 32 [1] iota_S32x512_d1_w32, 16#32, k0_pay144⟩ := by
    unfold frontB
    rfl
  rw [e, View.readAt_full, View.readAt_full, View.readAt_full, View.readAt_full, harg2.read_unread, harg7.read_unread, harg8.read_unread, harg9.read_unread]

/-- The 520 rows the first half leaves. -/
theorem frontB_xs (c : Dev nD) (i : grid0.Coords) (arg2 : Memref sig .tc .vmem S1x512x768 .f32) (harg2 : arg2.IsWhole) (arg3 : Memref sig .tc .vmem S1x768 .f32) (harg3 : arg3.IsWhole) (arg4 : Memref sig .tc .vmem S768x1536 .bf16) (harg4 : arg4.IsWhole) (arg5 : Memref sig .tc .vmem S1x1536 .f32) (harg5 : arg5.IsWhole) (arg6 : Memref sig .tc .vmem S4x1536 .f32) (harg6 : arg6.IsWhole) (arg7 : Memref sig .tc .vmem S16x1536 .f32) (harg7 : arg7.IsWhole) (arg8 : Memref sig .tc .vmem S16x1536 .f32) (harg8 : arg8.IsWhole) (arg9 : Memref sig .tc .vmem S16x1536 .f32) (harg9 : arg9.IsWhole) (arg10 : Memref sig .tc .vmem S1536x768 .bf16) (harg10 : arg10.IsWhole) (arg11 : Memref sig .tc .vmem S1x768 .f32) (harg11 : arg11.IsWhole) (arg12 : Memref sig .tc .vmem S1x512x768 .f32) (harg12 : arg12.IsWhole) (arg13 : Memref sig .tc .vmem S520x1536 .f32) (harg13 : arg13.IsWhole) (arg14 : Memref sig .tc .vmem S512x1536 .f32) (harg14 : arg14.IsWhole) (arg15 : Memref sig .tc .vmem S512x1536 .f32) (harg15 : arg15.IsWhole) (arg16 : Memref sig .tc .vmem S16x1536 .bf16) (harg16 : arg16.IsWhole) (arg17 : Memref sig .tc .vmem S512x1536 .bf16) (harg17 : arg17.IsWhole) (arg18 : Memref sig .tc .vmem S512x1536 .bf16) (harg18 : arg18.IsWhole) (hc0 : ¬startsSeq i) (hc1 : insideSeq i) (x0 : Vec F S1x512x768 .f32) (x1 : Vec F S1x768 .f32) (x2 : Vec F S768x1536 .bf16) (x3 : Vec F S1x1536 .f32) (x4 : Vec F S4x1536 .f32) (x5 : Vec F S16x1536 .f32) (x6 : Vec F S16x1536 .f32) (x7 : Vec F S16x1536 .f32) (xs0 : Vec F S520x1536 .f32) (f : arg13.view.ty.Contents (Elt F)) :
    arg13.view.read (Elt F) (arg13.view.writes (Elt F) f (frontB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs0).2.1) = xpsOf (k0_pay139 (rows8 xs0)) (k0_pay140 x0 x1 x2 x3) := by
  have e : (frontB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs0).2.1 = [⟨Rect.unit (s := S520x1536) ![8, 0] S512x1536.size inb_S520x1536_S512x1536_8_0, k0_pay140 (arg2.view.readAt (Elt F) (Rect.unit (s := S1x512x768) ![0, 0, 0] S1x512x768.size inb_S1x512x768_S1x512x768_0_0_0).toLoadRect (harg2.unread x0))
      (arg3.view.readAt (Elt F) (Rect.unit (s := S1x768) ![0, 0] S1x768.size inb_S1x768_S1x768_0_0).toLoadRect (harg3.unread x1))
      (arg4.view.readAt (Elt F) (Rect.unit (s := S768x1536) ![0, 0] S768x1536.size inb_S768x1536_S768x1536_0_0).toLoadRect (harg4.unread x2))
      (arg5.view.readAt (Elt F) (Rect.unit (s := S1x1536) ![0, 0] S1x1536.size inb_S1x1536_S1x1536_0_0).toLoadRect (harg5.unread x3))⟩,
      ⟨Rect.unit (s := S520x1536) ![0, 0] S8x1536.size inb_S520x1536_S8x1536_0_0, k0_pay139 (arg13.view.readAt (Elt F) (Rect.unit (s := S520x1536) ![512, 0] S8x1536.size inb_S520x1536_S8x1536_512_0).toLoadRect (harg13.unread xs0))⟩] := by
    unfold frontB
    rfl
  rw [e, read_xps, View.readAt_full, View.readAt_full, View.readAt_full, View.readAt_full, harg2.read_unread, harg3.read_unread, harg4.read_unread, harg5.read_unread, readAt_rows8, harg13.read_unread]

/-- The convolution the first half leaves. -/
theorem frontB_xc (c : Dev nD) (i : grid0.Coords) (arg2 : Memref sig .tc .vmem S1x512x768 .f32) (harg2 : arg2.IsWhole) (arg3 : Memref sig .tc .vmem S1x768 .f32) (harg3 : arg3.IsWhole) (arg4 : Memref sig .tc .vmem S768x1536 .bf16) (harg4 : arg4.IsWhole) (arg5 : Memref sig .tc .vmem S1x1536 .f32) (harg5 : arg5.IsWhole) (arg6 : Memref sig .tc .vmem S4x1536 .f32) (harg6 : arg6.IsWhole) (arg7 : Memref sig .tc .vmem S16x1536 .f32) (harg7 : arg7.IsWhole) (arg8 : Memref sig .tc .vmem S16x1536 .f32) (harg8 : arg8.IsWhole) (arg9 : Memref sig .tc .vmem S16x1536 .f32) (harg9 : arg9.IsWhole) (arg10 : Memref sig .tc .vmem S1536x768 .bf16) (harg10 : arg10.IsWhole) (arg11 : Memref sig .tc .vmem S1x768 .f32) (harg11 : arg11.IsWhole) (arg12 : Memref sig .tc .vmem S1x512x768 .f32) (harg12 : arg12.IsWhole) (arg13 : Memref sig .tc .vmem S520x1536 .f32) (harg13 : arg13.IsWhole) (arg14 : Memref sig .tc .vmem S512x1536 .f32) (harg14 : arg14.IsWhole) (arg15 : Memref sig .tc .vmem S512x1536 .f32) (harg15 : arg15.IsWhole) (arg16 : Memref sig .tc .vmem S16x1536 .bf16) (harg16 : arg16.IsWhole) (arg17 : Memref sig .tc .vmem S512x1536 .bf16) (harg17 : arg17.IsWhole) (arg18 : Memref sig .tc .vmem S512x1536 .bf16) (harg18 : arg18.IsWhole) (hc0 : ¬startsSeq i) (hc1 : insideSeq i) (x0 : Vec F S1x512x768 .f32) (x1 : Vec F S1x768 .f32) (x2 : Vec F S768x1536 .bf16) (x3 : Vec F S1x1536 .f32) (x4 : Vec F S4x1536 .f32) (x5 : Vec F S16x1536 .f32) (x6 : Vec F S16x1536 .f32) (x7 : Vec F S16x1536 .f32) (xs0 : Vec F S520x1536 .f32) (f : arg14.view.ty.Contents (Elt F)) :
    arg14.view.read (Elt F) (arg14.view.writes (Elt F) f (frontB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs0).2.2.1) = xcOf (k0_pay136 x0 x1 x2 x3) (xpsOf (k0_pay139 (rows8 xs0)) (k0_pay140 x0 x1 x2 x3)) x4 := by
  have e13 : arg13.view.read (Elt F) (arg13.view.writes (Elt F) arg13.view.junk (frontB.sl.H13_2 c arg2 harg2 arg3 harg3 arg4 harg4 arg5 harg5 arg13 harg13 x0 x1 x2 x3 xs0)) = xpsOf (k0_pay139 (rows8 xs0)) (k0_pay140 x0 x1 x2 x3) :=
    (congrArg (fun L => arg13.view.read (Elt F) (arg13.view.writes (Elt F) arg13.view.junk L)) (by unfold frontB; rfl)).trans (frontB_xs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs0 arg13.view.junk)
  have e5 : frontB.sl.v33 c arg2 harg2 arg3 harg3 arg4 harg4 arg5 harg5 arg13 harg13 x0 x1 x2 x3 xs0 = rows512 (xpsOf (k0_pay139 (rows8 xs0)) (k0_pay140 x0 x1 x2 x3)) 5 :=
    (readAt_rows512 arg13.view (arg13.view.writes (Elt F) arg13.view.junk (frontB.sl.H13_2 c arg2 harg2 arg3 harg3 arg4 harg4 arg5 harg5 arg13 harg13 x0 x1 x2 x3 xs0)) 5 inb_S520x1536_S512x1536_5_0).trans (by rw [e13])
  have e6 : frontB.sl.v38 c arg2 harg2 arg3 harg3 arg4 harg4 arg5 harg5 arg13 harg13 x0 x1 x2 x3 xs0 = rows512 (xpsOf (k0_pay139 (rows8 xs0)) (k0_pay140 x0 x1 x2 x3)) 6 :=
    (readAt_rows512 arg13.view (arg13.view.writes (Elt F) arg13.view.junk (frontB.sl.H13_2 c arg2 harg2 arg3 harg3 arg4 harg4 arg5 harg5 arg13 harg13 x0 x1 x2 x3 xs0)) 6 inb_S520x1536_S512x1536_6_0).trans (by rw [e13])
  have e7 : frontB.sl.v44 c arg2 harg2 arg3 harg3 arg4 harg4 arg5 harg5 arg13 harg13 x0 x1 x2 x3 xs0 = rows512 (xpsOf (k0_pay139 (rows8 xs0)) (k0_pay140 x0 x1 x2 x3)) 7 :=
    (readAt_rows512 arg13.view (arg13.view.writes (Elt F) arg13.view.junk (frontB.sl.H13_2 c arg2 harg2 arg3 harg3 arg4 harg4 arg5 harg5 arg13 harg13 x0 x1 x2 x3 xs0)) 7 inb_S520x1536_S512x1536_7_0).trans (by rw [e13])
  have e : (frontB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs0).2.2.1 = [⟨Rect.unit (s := S512x1536) ![0, 0] S512x1536.size inb_S512x1536_S512x1536_0_0, k0_pay141 (k0_pay136 (arg2.view.readAt (Elt F) (Rect.unit (s := S1x512x768) ![0, 0, 0] S1x512x768.size inb_S1x512x768_S1x512x768_0_0_0).toLoadRect (harg2.unread x0))
      (arg3.view.readAt (Elt F) (Rect.unit (s := S1x768) ![0, 0] S1x768.size inb_S1x768_S1x768_0_0).toLoadRect (harg3.unread x1))
      (arg4.view.readAt (Elt F) (Rect.unit (s := S768x1536) ![0, 0] S768x1536.size inb_S768x1536_S768x1536_0_0).toLoadRect (harg4.unread x2))
      (arg5.view.readAt (Elt F) (Rect.unit (s := S1x1536) ![0, 0] S1x1536.size inb_S1x1536_S1x1536_0_0).toLoadRect (harg5.unread x3)))
      (frontB.sl.v33 c arg2 harg2 arg3 harg3 arg4 harg4 arg5 harg5 arg13 harg13 x0 x1 x2 x3 xs0) (arg6.view.readAt (Elt F) (Rect.unit (s := S4x1536) ![0, 0] S1x1536.size inb_S4x1536_S1x1536_0_0).toLoadRect (harg6.unread x4))
      (frontB.sl.v38 c arg2 harg2 arg3 harg3 arg4 harg4 arg5 harg5 arg13 harg13 x0 x1 x2 x3 xs0) (arg6.view.readAt (Elt F) (Rect.unit (s := S4x1536) ![1, 0] S1x1536.size inb_S4x1536_S1x1536_1_0).toLoadRect (harg6.unread x4))
      (frontB.sl.v44 c arg2 harg2 arg3 harg3 arg4 harg4 arg5 harg5 arg13 harg13 x0 x1 x2 x3 xs0) (arg6.view.readAt (Elt F) (Rect.unit (s := S4x1536) ![2, 0] S1x1536.size inb_S4x1536_S1x1536_2_0).toLoadRect (harg6.unread x4))
      (arg6.view.readAt (Elt F) (Rect.unit (s := S4x1536) ![3, 0] S1x1536.size inb_S4x1536_S1x1536_3_0).toLoadRect (harg6.unread x4))⟩] := by
    unfold frontB
    rfl
  rw [e, View.read_writes_full, e5, e6, e7, readAt_wRow arg6.view _ 0 0 rfl, readAt_wRow arg6.view _ 1 1 rfl, readAt_wRow arg6.view _ 2 2 rfl, readAt_wRow arg6.view _ 3 3 rfl,
    View.readAt_full, View.readAt_full, View.readAt_full, View.readAt_full, harg2.read_unread, harg3.read_unread, harg4.read_unread, harg5.read_unread, harg6.read_unread]
  rfl

end Cert.KernelIdeal.Body

end
-- ==== Proof.KernelIdeal.Trip.lean ====
/- One trip of the loop over the groups, and the loop, as the scan. -/
module

public import proofs.«01_k».proof.Proof.KernelIdeal.Points
public import proofs.«01_k».proof.Proof.KernelIdeal.Spec
public import proofs.«01_k».proof.Proof.Gen.KernelIdeal.Loops
public import Idealize.ShloMosaic.Lib.VecWindow

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (arg2 : Memref sig .tc .vmem S1x512x768 .f32) (harg2 : arg2.IsWhole) (arg3 : Memref sig .tc .vmem S1x768 .f32) (harg3 : arg3.IsWhole) (arg4 : Memref sig .tc .vmem S768x1536 .bf16) (harg4 : arg4.IsWhole) (arg5 : Memref sig .tc .vmem S1x1536 .f32) (harg5 : arg5.IsWhole) (arg6 : Memref sig .tc .vmem S4x1536 .f32) (harg6 : arg6.IsWhole) (arg7 : Memref sig .tc .vmem S16x1536 .f32) (harg7 : arg7.IsWhole) (arg8 : Memref sig .tc .vmem S16x1536 .f32) (harg8 : arg8.IsWhole) (arg9 : Memref sig .tc .vmem S16x1536 .f32) (harg9 : arg9.IsWhole) (arg10 : Memref sig .tc .vmem S1536x768 .bf16) (harg10 : arg10.IsWhole) (arg11 : Memref sig .tc .vmem S1x768 .f32) (harg11 : arg11.IsWhole) (arg12 : Memref sig .tc .vmem S1x512x768 .f32) (harg12 : arg12.IsWhole) (arg13 : Memref sig .tc .vmem S520x1536 .f32) (harg13 : arg13.IsWhole) (arg14 : Memref sig .tc .vmem S512x1536 .f32) (harg14 : arg14.IsWhole) (arg15 : Memref sig .tc .vmem S512x1536 .f32) (harg15 : arg15.IsWhole) (arg16 : Memref sig .tc .vmem S16x1536 .bf16) (harg16 : arg16.IsWhole) (arg17 : Memref sig .tc .vmem S512x1536 .bf16) (harg17 : arg17.IsWhole) (arg18 : Memref sig .tc .vmem S512x1536 .bf16) (harg18 : arg18.IsWhole)
  (v61 : FVec F S16x1536 .bf16) (v68 : FVec F S16x1536 .f32) (v99 : FVec F S32x512 .bf16) (v394 : Vec F S32x1536 .f32) (v652 : FVec F S16x1536 .bf16) (v655 : FVec F S16x1536 .bf16) (X_arg14 : BufTy.Contents (Elt F) arg14.view.ty)

/-- The rows a trip loads are rows of the 512. -/
theorem readAt_rows32 {κ : Kind} {sp : Space} (v : View sig κ sp S512x1536 .f32) (X : v.ty.Contents (Elt F)) {off : Fin 2 → ℕ} (o : ℕ)
    (hoff : off = ![o, 0]) (inb : ∀ a, off a + S32x1536.size a ≤ S512x1536.size a) :
    v.readAt (Elt F) (Rect.unit (s := S512x1536) off S32x1536.size inb).toLoadRect X = rows32 (v.read (Elt F) X) o := by
  subst hoff
  funext j
  have h0 := inb 0
  change o + 32 ≤ 512 at h0
  have hj := (j 0).isLt
  change (j 0).val < 32 at hj
  show v.read (Elt F) X _ = v.read (Elt F) X _
  congr 1
  funext a
  fin_cases a
  · refine Fin.ext ?_
    show o + 1 * (j 0).val = (o + (j 0).val) % 512
    rw [Nat.mod_eq_of_lt (by omega)]; omega
  · refine Fin.ext ?_
    show 0 + 1 * (j 1).val = (j 1).val
    omega

/-- The state a trip yields: 64 steps on. -/
theorem tripR_eq (k : Fin k0_t1_loop.trips) (acc : FVec F S16x1536 .bf16) (f15 : BufTy.Contents (Elt F) arg15.view.ty) (f17 : BufTy.Contents (Elt F) arg17.view.ty) (f18 : BufTy.Contents (Elt F) arg18.view.ty) :
    tripR_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v99 v394 v652 v655 X_arg14 k acc f15 f17 f18 =
      gscan v61 v68 (arg14.view.readAt (Elt F) (Rect.unit (s := S512x1536) (k0_off3 k) S32x1536.size (k0_off3_inb k)).toLoadRect X_arg14)
        (gscan v61 v68 (arg14.view.readAt (Elt F) (Rect.unit (s := S512x1536) (k0_off1 k) S32x1536.size (k0_off1_inb k)).toLoadRect X_arg14) acc 32) 32 := by
  unfold tripR_k0_t1 trip_k0_t1
  rfl

/-- The states a trip leaves in the first buffer. -/
theorem tripL17_eq (k : Fin k0_t1_loop.trips) (acc : FVec F S16x1536 .bf16) (f15 : BufTy.Contents (Elt F) arg15.view.ty) (f17 : BufTy.Contents (Elt F) arg17.view.ty) (f18 : BufTy.Contents (Elt F) arg18.view.ty) :
    (tripL_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v99 v394 v652 v655 X_arg14 k acc f15 f17 f18).2.1 =
      pcs (fun n => gscan v61 v68 (arg14.view.readAt (Elt F) (Rect.unit (s := S512x1536) (k0_off1 k) S32x1536.size (k0_off1_inb k)).toLoadRect X_arg14) acc (n + 1)) 32 (Nat.le_refl _) := by
  unfold tripL_k0_t1 trip_k0_t1
  rfl

/-- The states a trip leaves in the second buffer. -/
theorem tripL18_eq (k : Fin k0_t1_loop.trips) (acc : FVec F S16x1536 .bf16) (f15 : BufTy.Contents (Elt F) arg15.view.ty) (f17 : BufTy.Contents (Elt F) arg17.view.ty) (f18 : BufTy.Contents (Elt F) arg18.view.ty) :
    (tripL_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v99 v394 v652 v655 X_arg14 k acc f15 f17 f18).2.2 =
      pcs (fun n => gscan v61 v68 (arg14.view.readAt (Elt F) (Rect.unit (s := S512x1536) (k0_off3 k) S32x1536.size (k0_off3_inb k)).toLoadRect X_arg14)
        (gscan v61 v68 (arg14.view.readAt (Elt F) (Rect.unit (s := S512x1536) (k0_off1 k) S32x1536.size (k0_off1_inb k)).toLoadRect X_arg14) acc 32) (n + 1)) 32 (Nat.le_refl _) := by
  unfold tripL_k0_t1 trip_k0_t1
  rfl

/-- The two groups of outputs a trip stores. -/
theorem tripL15_eq (k : Fin k0_t1_loop.trips) (acc : FVec F S16x1536 .bf16) (f15 : BufTy.Contents (Elt F) arg15.view.ty) (f17 : BufTy.Contents (Elt F) arg17.view.ty) (f18 : BufTy.Contents (Elt F) arg18.view.ty) :
    (tripL_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v99 v394 v652 v655 X_arg14 k acc f15 f17 f18).1 =
      [⟨Rect.unit (s := S512x1536) (k0_off1 k) S32x1536.size (k0_off1_inb k), redY v99 (arg17.view.readAt (Elt F) (Rect.unit (s := S512x1536) ![0, 0] S512x1536.size inb_S512x1536_S512x1536_0_0).toLoadRect (arg17.view.writes (Elt F) arg17.view.junk
        (pcs (fun n => gscan v61 v68 (arg14.view.readAt (Elt F) (Rect.unit (s := S512x1536) (k0_off1 k) S32x1536.size (k0_off1_inb k)).toLoadRect X_arg14) acc (n + 1)) 32 (Nat.le_refl _))))⟩,
       ⟨Rect.unit (s := S512x1536) (k0_off2 k) S32x1536.size (k0_off2_inb k), redY v99 (arg18.view.readAt (Elt F) (Rect.unit (s := S512x1536) ![0, 0] S512x1536.size inb_S512x1536_S512x1536_0_0).toLoadRect f18)⟩] := by
  unfold tripL_k0_t1 trip_k0_t1
  rfl

/-- A load of all the rows reads what the buffer holds. -/
theorem readAt_all {κ : Kind} {sp : Space} {e : EltTy} (v : View sig κ sp S512x1536 e) (X : v.ty.Contents (Elt F)) (inb : ∀ a, (![0, 0] : Fin 2 → ℕ) a + S512x1536.size a ≤ S512x1536.size a) :
    v.readAt (Elt F) (Rect.unit (s := S512x1536) ![0, 0] S512x1536.size inb).toLoadRect X = v.read (Elt F) X :=
  View.readAt_full v X inb

/-- The trip's result over the rows of the block. -/
theorem tripR_rows (k : Fin k0_t1_loop.trips) (acc : FVec F S16x1536 .bf16) (f15 : BufTy.Contents (Elt F) arg15.view.ty) (f17 : BufTy.Contents (Elt F) arg17.view.ty) (f18 : BufTy.Contents (Elt F) arg18.view.ty) :
    tripR_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v99 v394 v652 v655 X_arg14 k acc f15 f17 f18 =
      gscan v61 v68 (rows32 (arg14.view.read (Elt F) X_arg14) (64 * k.val + 96)) (gscan v61 v68 (rows32 (arg14.view.read (Elt F) X_arg14) (64 * k.val + 64)) acc 32) 32 := by
  rw [tripR_eq, readAt_rows32 arg14.view X_arg14 _ (k0_off1_eq k), readAt_rows32 arg14.view X_arg14 _ (k0_off3_eq k)]

/-- The second buffer's states over the rows of the block. -/
theorem tripL18_rows (k : Fin k0_t1_loop.trips) (acc : FVec F S16x1536 .bf16) (f15 : BufTy.Contents (Elt F) arg15.view.ty) (f17 : BufTy.Contents (Elt F) arg17.view.ty) (f18 : BufTy.Contents (Elt F) arg18.view.ty) :
    (tripL_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v99 v394 v652 v655 X_arg14 k acc f15 f17 f18).2.2 =
      pcs (fun n => gscan v61 v68 (rows32 (arg14.view.read (Elt F) X_arg14) (64 * k.val + 96)) (gscan v61 v68 (rows32 (arg14.view.read (Elt F) X_arg14) (64 * k.val + 64)) acc 32) (n + 1)) 32 (Nat.le_refl _) := by
  rw [tripL18_eq, readAt_rows32 arg14.view X_arg14 _ (k0_off1_eq k), readAt_rows32 arg14.view X_arg14 _ (k0_off3_eq k)]

/-- The stored outputs over the rows of the block. -/
theorem tripL15_rows (k : Fin k0_t1_loop.trips) (acc : FVec F S16x1536 .bf16) (f15 : BufTy.Contents (Elt F) arg15.view.ty) (f17 : BufTy.Contents (Elt F) arg17.view.ty) (f18 : BufTy.Contents (Elt F) arg18.view.ty) :
    (tripL_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v99 v394 v652 v655 X_arg14 k acc f15 f17 f18).1 =
      [⟨Rect.unit (s := S512x1536) (k0_off1 k) S32x1536.size (k0_off1_inb k), redY v99 (stack fun n => gscan v61 v68 (rows32 (arg14.view.read (Elt F) X_arg14) (64 * k.val + 64)) acc (n + 1))⟩,
       ⟨Rect.unit (s := S512x1536) (k0_off2 k) S32x1536.size (k0_off2_inb k), redY v99 (arg18.view.read (Elt F) f18)⟩] := by
  rw [tripL15_eq, readAt_all, readAt_all, read_pcs_all, readAt_rows32 arg14.view X_arg14 _ (k0_off1_eq k)]

/-- A stored group of outputs, at a row of it. -/
theorem ySpec_piece (sel : FVec F S32x512 .bf16) (P : ℕ → St F) (g o : ℕ) (ho : o = 32 * g) (j : S512x1536.Idx) (h : o ≤ (j 0).val ∧ (j 0).val < o + 32)
    (hm : ∀ a : Fin 2, (![o, 0] : Fin 2 → ℕ) a ≤ (j a).val ∧ (j a).val < (![o, 0] : Fin 2 → ℕ) a + S32x1536.size a) :
    redY sel (stack fun n => P (32 * g + n + 1)) (Rect.unitLocal (s := S512x1536) (off := ![o, 0]) (size := S32x1536.size) j hm) = ySpec sel P j := by
  unfold ySpec
  have e1 : (j 0).val / 32 = g := by omega
  rw [e1]
  congr 1
  funext a
  fin_cases a
  · refine Fin.ext ?_
    show (j 0).val - o = (j 0).val % 32
    omega
  · exact Fin.ext (Nat.sub_zero _)

/-- The outputs after the stores of one trip. -/
theorem y_step {κ : Kind} {sp : Space} (v : View sig κ sp S512x1536 .f32) (f : v.ty.Contents (Elt F)) (sel : FVec F S32x512 .bf16) (P : ℕ → St F)
    (k : Fin k0_t1_loop.trips) (B1 B2 : Vec F S512x1536 .bf16) (hB1 : B1 = stack fun n => P (32 * (2 * k.val + 2) + n + 1))
    (hB2 : B2 = stack fun n => P (32 * (2 * k.val + 1) + n + 1)) (j : S512x1536.Idx) :
    v.read (Elt F) (v.writes (Elt F) f [⟨Rect.unit (s := S512x1536) (k0_off1 k) S32x1536.size (k0_off1_inb k), redY sel B1⟩,
        ⟨Rect.unit (s := S512x1536) (k0_off2 k) S32x1536.size (k0_off2_inb k), redY sel B2⟩]) j
      = if 64 * k.val + 32 ≤ (j 0).val ∧ (j 0).val < 64 * k.val + 96 then ySpec sel P j else v.read (Elt F) f j := by
  subst hB1 hB2
  rw [View.read_writes_cons_rows v _ (size := S32x1536.size) (o := 64 * k.val + 64) (W := 32) _ _ _ j (k0_off1_eq _) rfl rfl]
  split
  · next hh =>
    rw [if_pos (by omega)]
    exact ySpec_piece sel P (2 * k.val + 2) _ (by omega) j hh _
  · next hh =>
    rw [View.read_writes_cons_rows v _ (size := S32x1536.size) (o := 64 * k.val + 32) (W := 32) _ _ _ j (k0_off2_eq _) rfl rfl]
    split
    · next hh2 =>
      rw [if_pos (by omega)]
      exact ySpec_piece sel P (2 * k.val + 1) _ (by omega) j hh2 _
    · next hh2 => rw [if_neg (by omega), View.writes_nil]

/-- What holds before trip `k`: the yielded state, the states of the pending group, the outputs stored so far. -/
theorem loop_eq (h : St F) (G15 : BufTy.Contents (Elt F) arg15.view.ty) (G17 : BufTy.Contents (Elt F) arg17.view.ty) (G18 : BufTy.Contents (Elt F) arg18.view.ty) (init : St F)
    (hinit : init = scan v61 v68 (arg14.view.read (Elt F) X_arg14) h 64)
    (hG18 : arg18.view.read (Elt F) G18 = stack fun n => scan v61 v68 (arg14.view.read (Elt F) X_arg14) h (32 * 1 + n + 1)) :
    ∀ k : ℕ, k ≤ 7 →
      (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v99 v394 v652 v655 X_arg14 G15 G17 G18 init k).1 = scan v61 v68 (arg14.view.read (Elt F) X_arg14) h (64 * k + 64) ∧
      arg18.view.read (Elt F) (arg18.view.writes (Elt F) G18 (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v99 v394 v652 v655 X_arg14 G15 G17 G18 init k).2.2.2)
        = (stack fun n => scan v61 v68 (arg14.view.read (Elt F) X_arg14) h (32 * (2 * k + 1) + n + 1)) ∧
      ∀ j : S512x1536.Idx, arg15.view.read (Elt F) (arg15.view.writes (Elt F) G15 (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v99 v394 v652 v655 X_arg14 G15 G17 G18 init k).2.1) j
        = if 32 ≤ (j 0).val ∧ (j 0).val < 64 * k + 32 then ySpec v99 (scan v61 v68 (arg14.view.read (Elt F) X_arg14) h) j
          else arg15.view.read (Elt F) G15 j
  | 0, _ => by
    refine ⟨hinit, hG18, fun j => ?_⟩
    rw [if_neg (by omega)]
    rfl
  | k + 1, hk => by
    obtain ⟨h1, h2, h3⟩ := loop_eq h G15 G17 G18 init hinit hG18 k (by omega)
    have e := st_k0_t1_succ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v99 v394 v652 v655 X_arg14 G15 G17 G18 init (⟨k, by show k < 7; omega⟩ : Fin k0_t1_loop.trips)
    have e1 := (congrArg Prod.fst e).trans (tripR_rows c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v99 v394 v652 v655 X_arg14 ..)
    have e2 := (congrArg (fun s => s.2.2.2) e).trans (congrArg (fun L => L ++ (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v99 v394 v652 v655 X_arg14 G15 G17 G18 init k).2.2.2) (tripL18_rows c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v99 v394 v652 v655 X_arg14 ..))
    have e3 := (congrArg (fun s => s.2.1) e).trans (congrArg (fun L => L ++ (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v99 v394 v652 v655 X_arg14 G15 G17 G18 init k).2.1) (tripL15_rows c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v99 v394 v652 v655 X_arg14 ..))
    beta_reduce at e1 e2 e3
    rw [h1] at e1 e2 e3
    rw [h2] at e3
    have c1 : ∀ n, n ≤ 32 → gscan v61 v68 (rows32 (arg14.view.read (Elt F) X_arg14) (64 * k + 64)) (scan v61 v68 (arg14.view.read (Elt F) X_arg14) h (64 * k + 64)) n
        = scan v61 v68 (arg14.view.read (Elt F) X_arg14) h (64 * k + 64 + n) := fun n hn => gscan_eq _ _ _ _ _ n hn
    have c2 : ∀ n, n ≤ 32 → gscan v61 v68 (rows32 (arg14.view.read (Elt F) X_arg14) (64 * k + 96)) (scan v61 v68 (arg14.view.read (Elt F) X_arg14) h (64 * k + 96)) n
        = scan v61 v68 (arg14.view.read (Elt F) X_arg14) h (64 * k + 96 + n) := fun n hn => gscan_eq _ _ _ _ _ n hn
    refine ⟨e1.trans ?_, ?_, fun j => ?_⟩
    · show gscan v61 v68 (rows32 _ (64 * k + 96)) (gscan v61 v68 (rows32 _ (64 * k + 64)) _ 32) 32 = _
      rw [c1 32 (Nat.le_refl _), show 64 * k + 64 + 32 = 64 * k + 96 by omega, c2 32 (Nat.le_refl _)]
      congr 1
    · refine (congrArg (fun L => arg18.view.read (Elt F) (arg18.view.writes (Elt F) G18 L)) e2).trans ?_
      show arg18.view.read (Elt F) (arg18.view.writes (Elt F) G18 (pcs (fun n => gscan v61 v68 (rows32 _ (64 * k + 96)) (gscan v61 v68 (rows32 _ (64 * k + 64)) _ 32) (n + 1)) 32 _ ++ _)) = _
      rw [View.writes_append, read_pcs_all, c1 32 (Nat.le_refl _), show 64 * k + 64 + 32 = 64 * k + 96 by omega]
      refine stack_congr fun n hn => ?_
      rw [c2 (n + 1) (by omega)]
      congr 1
      omega
    · have hs1 : (stack fun n => gscan v61 v68 (rows32 (arg14.view.read (Elt F) X_arg14) (64 * k + 64)) (scan v61 v68 (arg14.view.read (Elt F) X_arg14) h (64 * k + 64)) (n + 1))
          = stack fun n => scan v61 v68 (arg14.view.read (Elt F) X_arg14) h (32 * (2 * k + 2) + n + 1) :=
        stack_congr fun n hn => by rw [c1 (n + 1) (by omega)]; congr 1; omega
      rw [e3, View.writes_append, y_step arg15.view _ v99 _ ⟨k, _⟩ _ _ hs1 rfl j]
      show (if 64 * k + 32 ≤ (j 0).val ∧ (j 0).val < 64 * k + 96 then _ else _) = _
      rw [h3 j]
      by_cases hc : 32 ≤ (j 0).val ∧ (j 0).val < 64 * k + 32
      · rw [if_pos hc, if_neg (by omega), if_pos (by omega)]
      · rw [if_neg hc]
        by_cases hd : 64 * k + 32 ≤ (j 0).val ∧ (j 0).val < 64 * k + 96
        · rw [if_pos hd, if_pos (by omega)]
        · rw [if_neg hd, if_neg (by omega)]

end Cert.KernelIdeal.Body

end
-- ==== Proof.KernelIdeal.Rest.lean ====
/- The rest of a grid point: the scan in groups of 32 rows, the reduction of each group, the output projection. -/
module

public import proofs.«01_k».proof.Proof.KernelIdeal.Points
public import proofs.«01_k».proof.Proof.Gen.KernelIdeal.Loops

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- The body's statements after the gates. -/
def rest (i : grid0.Coords) (arg2 : Memref sig .tc .vmem S1x512x768 .f32) (harg2 : arg2.IsWhole) (arg3 : Memref sig .tc .vmem S1x768 .f32) (harg3 : arg3.IsWhole) (arg4 : Memref sig .tc .vmem S768x1536 .bf16) (harg4 : arg4.IsWhole) (arg5 : Memref sig .tc .vmem S1x1536 .f32) (harg5 : arg5.IsWhole) (arg6 : Memref sig .tc .vmem S4x1536 .f32) (harg6 : arg6.IsWhole) (arg7 : Memref sig .tc .vmem S16x1536 .f32) (harg7 : arg7.IsWhole) (arg8 : Memref sig .tc .vmem S16x1536 .f32) (harg8 : arg8.IsWhole) (arg9 : Memref sig .tc .vmem S16x1536 .f32) (harg9 : arg9.IsWhole) (arg10 : Memref sig .tc .vmem S1536x768 .bf16) (harg10 : arg10.IsWhole) (arg11 : Memref sig .tc .vmem S1x768 .f32) (harg11 : arg11.IsWhole) (arg12 : Memref sig .tc .vmem S1x512x768 .f32) (harg12 : arg12.IsWhole) (arg13 : Memref sig .tc .vmem S520x1536 .f32) (harg13 : arg13.IsWhole) (arg14 : Memref sig .tc .vmem S512x1536 .f32) (harg14 : arg14.IsWhole) (arg15 : Memref sig .tc .vmem S512x1536 .f32) (harg15 : arg15.IsWhole) (arg16 : Memref sig .tc .vmem S16x1536 .bf16) (harg16 : arg16.IsWhole) (arg17 : Memref sig .tc .vmem S512x1536 .bf16) (harg17 : arg17.IsWhole) (arg18 : Memref sig .tc .vmem S512x1536 .bf16) (harg18 : arg18.IsWhole) (v1 : FVec F S512x768 .f32) (v61 : FVec F S16x1536 .bf16) (v68 : FVec F S16x1536 .f32) (v69 : IVec S32x512 32) (v70 : IVec S32x512 32) (c16_i32 : BitVec 32) (v71 : IVec S32x512 32) :
    Prog (TpuEff nD τ sig (Elt F) Λ₀ .tc) PUnit := do
  let ⟨v99, v103, v109, v116⟩ : Σ' (v99 : FVec F S32x512 .bf16) (v103 : Vec F S32x1536 .f32) (v109 : FVec F S16x1536 .bf16), FVec F S16x1536 .bf16 ← k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v69 v70 c16_i32 v71
  let ⟨v154, v161⟩ : Σ' (v154 : FVec F S16x1536 .bf16), FVec F S16x1536 .bf16 ← k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v103 v109 v116
  let ⟨v199, v206⟩ : Σ' (v199 : FVec F S16x1536 .bf16), FVec F S16x1536 .bf16 ← k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v103 v154 v161
  let ⟨v244, v251⟩ : Σ' (v244 : FVec F S16x1536 .bf16), FVec F S16x1536 .bf16 ← k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v103 v199 v206
  let ⟨v289, v296⟩ : Σ' (v289 : FVec F S16x1536 .bf16), FVec F S16x1536 .bf16 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v103 v244 v251
  let ⟨v334, v341⟩ : Σ' (v334 : FVec F S16x1536 .bf16), FVec F S16x1536 .bf16 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v103 v289 v296
  let ⟨v379, v386⟩ : Σ' (v379 : FVec F S16x1536 .bf16), FVec F S16x1536 .bf16 ← k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v103 v334 v341
  let ⟨v394, v427, v430⟩ : Σ' (v394 : Vec F S32x1536 .f32) (v427 : FVec F S16x1536 .bf16), FVec F S16x1536 .bf16 ← k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v379 v386
  let ⟨v472, v475⟩ : Σ' (v472 : FVec F S16x1536 .bf16), FVec F S16x1536 .bf16 ← k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v394 v427 v430
  let ⟨v517, v520⟩ : Σ' (v517 : FVec F S16x1536 .bf16), FVec F S16x1536 .bf16 ← k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v394 v472 v475
  let ⟨v562, v565⟩ : Σ' (v562 : FVec F S16x1536 .bf16), FVec F S16x1536 .bf16 ← k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v394 v517 v520
  let ⟨v607, v610⟩ : Σ' (v607 : FVec F S16x1536 .bf16), FVec F S16x1536 .bf16 ← k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v394 v562 v565
  let ⟨v652, v655⟩ : Σ' (v652 : FVec F S16x1536 .bf16), FVec F S16x1536 .bf16 ← k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v394 v607 v610
  let ⟨v691, v692⟩ : Σ' (v691 : FVec F S16x1536 .bf16), BitVec 32 ← k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v99 v394 v652 v655
  let v693 : Vec F S512x1536 .bf16 ← Prog.lift (.load arg18 (Rect.unit (s := S512x1536) ![0, 0] S512x1536.size inb_S512x1536_S512x1536_0_0).toLoadRect (View.loadsAt_vmem h_S512x1536))
  let v696 : Vec F S32x1536 .f32 ← Prog.lift (.load arg15 (Rect.unit (s := S512x1536) ![480, 0] S32x1536.size inb_S512x1536_S32x1536_480_0).toLoadRect (View.loadsAt_vmem h_S32x1536))
  Prog.lift (.store arg15 (Rect.unit (s := S512x1536) ![480, 0] S32x1536.size inb_S512x1536_S32x1536_480_0) (k0_pay1 v99 v693) Finset.univ (View.stores_vmem_bits_univ h_S32x1536 rfl) (.inl rfl))
  let v699 : Vec F S16x1536 .bf16 ← Prog.lift (.load arg16 (Rect.unit (s := S16x1536) ![0, 0] S16x1536.size inb_S16x1536_S16x1536_0_0).toLoadRect (View.loadsAt_vmem h_S16x1536))
  Prog.lift (.store arg16 (Rect.unit (s := S16x1536) ![0, 0] S16x1536.size inb_S16x1536_S16x1536_0_0) (k0_pay2 v691) Finset.univ (View.stores_vmem h_S16x1536 (harg16.storeExact_slice rfl _ packedbf16_S16x1536_S16x1536_0_0) (fun _ => rfl)) (.inl rfl))
  let v702 : Vec F S512x1536 .f32 ← Prog.lift (.load arg15 (Rect.unit (s := S512x1536) ![0, 0] S512x1536.size inb_S512x1536_S512x1536_0_0).toLoadRect (View.loadsAt_vmem h_S512x1536))
  let v704 : Vec F S1536x768 .bf16 ← Prog.lift (.load arg10 (Rect.unit (s := S1536x768) ![0, 0] S1536x768.size inb_S1536x768_S1536x768_0_0).toLoadRect (View.loadsAt_vmem h_S1536x768))
  let v707 : Vec F S1x768 .f32 ← Prog.lift (.load arg11 (Rect.unit (s := S1x768) ![0, 0] S1x768.size inb_S1x768_S1x768_0_0).toLoadRect (View.loadsAt_vmem h_S1x768))
  let v712 : Vec F S1x512x768 .f32 ← Prog.lift (.load arg12 (Rect.unit (s := S1x512x768) ![0, 0, 0] S1x512x768.size inb_S1x512x768_S1x512x768_0_0_0).toLoadRect (View.loadsAt_vmem h_S1x512x768))
  Prog.lift (.store arg12 (Rect.unit (s := S1x512x768) ![0, 0, 0] S1x512x768.size inb_S1x512x768_S1x512x768_0_0_0) (k0_pay3 v1 v702 v704 v707) Finset.univ (View.stores_vmem_bits_univ h_S1x512x768 rfl) (.inl rfl))
  pure ⟨⟩

set_option maxHeartbeats 4000000 in
/-- The rest of one point: the pieces it writes into the output block and into the carried state's scratch, found by the
    run, as functions of what the three scratches of the scan held before. -/
noncomputable def restRun (c : Dev nD) (i : grid0.Coords) (arg2 : Memref sig .tc .vmem S1x512x768 .f32) (harg2 : arg2.IsWhole) (arg3 : Memref sig .tc .vmem S1x768 .f32) (harg3 : arg3.IsWhole) (arg4 : Memref sig .tc .vmem S768x1536 .bf16) (harg4 : arg4.IsWhole) (arg5 : Memref sig .tc .vmem S1x1536 .f32) (harg5 : arg5.IsWhole) (arg6 : Memref sig .tc .vmem S4x1536 .f32) (harg6 : arg6.IsWhole) (arg7 : Memref sig .tc .vmem S16x1536 .f32) (harg7 : arg7.IsWhole) (arg8 : Memref sig .tc .vmem S16x1536 .f32) (harg8 : arg8.IsWhole) (arg9 : Memref sig .tc .vmem S16x1536 .f32) (harg9 : arg9.IsWhole) (arg10 : Memref sig .tc .vmem S1536x768 .bf16) (harg10 : arg10.IsWhole) (arg11 : Memref sig .tc .vmem S1x768 .f32) (harg11 : arg11.IsWhole) (arg12 : Memref sig .tc .vmem S1x512x768 .f32) (harg12 : arg12.IsWhole) (arg13 : Memref sig .tc .vmem S520x1536 .f32) (harg13 : arg13.IsWhole) (arg14 : Memref sig .tc .vmem S512x1536 .f32) (harg14 : arg14.IsWhole) (arg15 : Memref sig .tc .vmem S512x1536 .f32) (harg15 : arg15.IsWhole) (arg16 : Memref sig .tc .vmem S16x1536 .bf16) (harg16 : arg16.IsWhole) (arg17 : Memref sig .tc .vmem S512x1536 .bf16) (harg17 : arg17.IsWhole) (arg18 : Memref sig .tc .vmem S512x1536 .bf16) (harg18 : arg18.IsWhole) (v1 : FVec F S512x768 .f32) (v61 : FVec F S16x1536 .bf16) (v68 : FVec F S16x1536 .f32) (v69 : IVec S32x512 32) (v70 : IVec S32x512 32) (c16_i32 : BitVec 32) (v71 : IVec S32x512 32)
    (x8 : Vec F S1536x768 .bf16) (x9 : Vec F S1x768 .f32) (X14 : arg14.view.ty.Contents (Elt F)) (h : Vec F S16x1536 .bf16) :
    Σ' (L12 : arg15.view.ty.Contents (Elt F) → arg17.view.ty.Contents (Elt F) → arg18.view.ty.Contents (Elt F) → List (View.Piece (Elt F) S1x512x768 .f32)), { L16 : arg15.view.ty.Contents (Elt F) → arg17.view.ty.Contents (Elt F) → arg18.view.ty.Contents (Elt F) → List (View.Piece (Elt F) S16x1536 .bf16) //
      ∀ (E : Set ℕ) (K : PUnit → sProp 𝕄) (f15 : arg15.view.ty.Contents (Elt F)) (f17 : arg17.view.ty.Contents (Elt F)) (f18 : arg18.view.ty.Contents (Elt F)),
        iprop(owns (c : Thread nD τ) arg10 fullShare x8 ∗ owns (c : Thread nD τ) arg11 fullShare x9 ∗ (∃ d, owns (c : Thread nD τ) arg12 fullShare d) ∗ (arg14.view.loc (c : Thread nD τ) ↦[arg14.view.set]{fullShare} X14) ∗ (arg15.view.loc (c : Thread nD τ) ↦[arg15.view.set]{fullShare} f15) ∗ owns (c : Thread nD τ) arg16 fullShare h ∗ (arg17.view.loc (c : Thread nD τ) ↦[arg17.view.set]{fullShare} f17) ∗ (arg18.view.loc (c : Thread nD τ) ↦[arg18.view.set]{fullShare} f18)
            ∗ (iprop(owns (c : Thread nD τ) arg10 fullShare x8 ∗ owns (c : Thread nD τ) arg11 fullShare x9 ∗ (∃ f, (arg12.view.loc (c : Thread nD τ) ↦[arg12.view.set]{fullShare} arg12.view.writes (Elt F) f (L12 f15 f17 f18))) ∗ (arg14.view.loc (c : Thread nD τ) ↦[arg14.view.set]{fullShare} X14) ∗ (∃ f, (arg15.view.loc (c : Thread nD τ) ↦[arg15.view.set]{fullShare} f)) ∗ (∃ f, (arg16.view.loc (c : Thread nD τ) ↦[arg16.view.set]{fullShare} arg16.view.writes (Elt F) f (L16 f15 f17 f18))) ∗ (∃ f, (arg17.view.loc (c : Thread nD τ) ↦[arg17.view.set]{fullShare} f)) ∗ (∃ f, (arg18.view.loc (c : Thread nD τ) ↦[arg18.view.set]{fullShare} f))) -∗ K ⟨⟩))
          ⊢ wp frame (wpE (defs₀ (F := F)) Variants.none c none) E (rest i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v61 v68 v69 v70 c16_i32 v71) K } := by
  refine ⟨?_, ?_, fun E K f15 f17 f18 => ?run⟩
  case run =>
    unfold rest
    simp only [k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f10, %hf10, H10⟩, ⟨%f11, %hf11, H11⟩, ⟨%d12, %f12, -, H12⟩, H14, H15, ⟨%f16, %hf16, H16⟩, H17, H18, Hk⟩
    obtain rfl := harg10.eq_unread hf10; obtain rfl := harg11.eq_unread hf11; obtain rfl := harg16.eq_unread hf16
    sl_exec
    sl_step
    iapply Hk
    isplitl [H10]
    · iexists _; isplitr; · ipureintro; exact harg10.read_unread _
      iexact H10
    isplitl [H11]
    · iexists _; isplitr; · ipureintro; exact harg11.read_unread _
      iexact H11
    isplitl [H12]; · iexists _; iexact H12
    isplitl [H14]; · iexact H14
    isplitl [H15]; · iexists _; iexact H15
    isplitl [H16]; · iexists _; iexact H16
    isplitl [H17]; · iexists _; iexact H17
    iexists _; iexact H18

end Cert.KernelIdeal.Body

end
-- ==== Proof.KernelIdeal.RestEq.lean ====
/- The rest of a grid point, as the scan and the output projection. -/
module

public import proofs.«01_k».proof.Proof.KernelIdeal.Points
public import proofs.«01_k».proof.Proof.KernelIdeal.Trip
public import proofs.«01_k».proof.Proof.KernelIdeal.Rest

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (arg2 : Memref sig .tc .vmem S1x512x768 .f32) (harg2 : arg2.IsWhole) (arg3 : Memref sig .tc .vmem S1x768 .f32) (harg3 : arg3.IsWhole) (arg4 : Memref sig .tc .vmem S768x1536 .bf16) (harg4 : arg4.IsWhole) (arg5 : Memref sig .tc .vmem S1x1536 .f32) (harg5 : arg5.IsWhole) (arg6 : Memref sig .tc .vmem S4x1536 .f32) (harg6 : arg6.IsWhole) (arg7 : Memref sig .tc .vmem S16x1536 .f32) (harg7 : arg7.IsWhole) (arg8 : Memref sig .tc .vmem S16x1536 .f32) (harg8 : arg8.IsWhole) (arg9 : Memref sig .tc .vmem S16x1536 .f32) (harg9 : arg9.IsWhole) (arg10 : Memref sig .tc .vmem S1536x768 .bf16) (harg10 : arg10.IsWhole) (arg11 : Memref sig .tc .vmem S1x768 .f32) (harg11 : arg11.IsWhole) (arg12 : Memref sig .tc .vmem S1x512x768 .f32) (harg12 : arg12.IsWhole) (arg13 : Memref sig .tc .vmem S520x1536 .f32) (harg13 : arg13.IsWhole) (arg14 : Memref sig .tc .vmem S512x1536 .f32) (harg14 : arg14.IsWhole) (arg15 : Memref sig .tc .vmem S512x1536 .f32) (harg15 : arg15.IsWhole) (arg16 : Memref sig .tc .vmem S16x1536 .bf16) (harg16 : arg16.IsWhole) (arg17 : Memref sig .tc .vmem S512x1536 .bf16) (harg17 : arg17.IsWhole) (arg18 : Memref sig .tc .vmem S512x1536 .bf16) (harg18 : arg18.IsWhole) (v1 : FVec F S512x768 .f32) (v61 : FVec F S16x1536 .bf16) (v68 : FVec F S16x1536 .f32) (v69 : IVec S32x512 32) (v70 : IVec S32x512 32) (c16_i32 : BitVec 32) (v71 : IVec S32x512 32) (x8 : Vec F S1536x768 .bf16) (x9 : Vec F S1x768 .f32) (X14 : arg14.view.ty.Contents (Elt F)) (h : Vec F S16x1536 .bf16) (f15 : arg15.view.ty.Contents (Elt F)) (f17 : arg17.view.ty.Contents (Elt F)) (f18 : arg18.view.ty.Contents (Elt F))

/-- The states of group 0, written one under the other. -/
theorem rest17 : restRun.sl.H17_32 c arg14 arg16 harg16 v61 v68 X14 h = pcs (fun n => (scan v61 v68 (arg14.view.read (Elt F) X14) h) (32 * 0 + n + 1)) 32 (Nat.le_refl _) := by
  have e : restRun.sl.H17_32 c arg14 arg16 harg16 v61 v68 X14 h = pcs (fun n => gscan v61 v68 (arg14.view.readAt (Elt F) (Rect.unit (s := S512x1536) ![0, 0] S32x1536.size inb_S512x1536_S32x1536_0_0).toLoadRect X14)
      (arg16.view.readAt (Elt F) (Rect.unit (s := S16x1536) ![0, 0] S16x1536.size inb_S16x1536_S16x1536_0_0).toLoadRect (harg16.unread h)) (n + 1)) 32 (Nat.le_refl _) := rfl
  rw [e, readAt_rows32 arg14.view X14 0 rfl, View.readAt_full, harg16.read_unread]
  exact pcs_congr (w := fun n => _) (w' := fun n => _) (fun n hn => (gscan_eq v61 v68 (arg14.view.read (Elt F) X14) h 0 (n + 1) (by omega)).trans (congrArg _ (show 0 + (n + 1) = 32 * 0 + n + 1 by omega))) _

/-- The state after group 0. -/
theorem rest_mid : gscan v61 v68 (arg14.view.readAt (Elt F) (Rect.unit (s := S512x1536) ![0, 0] S32x1536.size inb_S512x1536_S32x1536_0_0).toLoadRect X14)
      (arg16.view.readAt (Elt F) (Rect.unit (s := S16x1536) ![0, 0] S16x1536.size inb_S16x1536_S16x1536_0_0).toLoadRect (harg16.unread h)) 32 = (scan v61 v68 (arg14.view.read (Elt F) X14) h) 32 := by
  rw [readAt_rows32 arg14.view X14 0 rfl, View.readAt_full, harg16.read_unread]
  exact (gscan_eq v61 v68 _ h 0 32 (Nat.le_refl _)).trans (congrArg _ (by omega))

/-- The states of group 1, written one under the other. -/
theorem rest18 : restRun.sl.H18_32 c arg14 arg16 harg16 v61 v68 X14 h = pcs (fun n => (scan v61 v68 (arg14.view.read (Elt F) X14) h) (32 * 1 + n + 1)) 32 (Nat.le_refl _) := by
  have e : restRun.sl.H18_32 c arg14 arg16 harg16 v61 v68 X14 h = pcs (fun n => gscan v61 v68 (arg14.view.readAt (Elt F) (Rect.unit (s := S512x1536) ![32, 0] S32x1536.size inb_S512x1536_S32x1536_32_0).toLoadRect X14)
      (gscan v61 v68 (arg14.view.readAt (Elt F) (Rect.unit (s := S512x1536) ![0, 0] S32x1536.size inb_S512x1536_S32x1536_0_0).toLoadRect X14)
      (arg16.view.readAt (Elt F) (Rect.unit (s := S16x1536) ![0, 0] S16x1536.size inb_S16x1536_S16x1536_0_0).toLoadRect (harg16.unread h)) 32) (n + 1)) 32 (Nat.le_refl _) := rfl
  rw [e, rest_mid, readAt_rows32 arg14.view X14 32 rfl]
  exact pcs_congr (w := fun n => _) (w' := fun n => _) (fun n hn => (gscan_eq v61 v68 (arg14.view.read (Elt F) X14) h 32 (n + 1) (by omega)).trans (congrArg _ (show 32 + (n + 1) = 32 * 1 + n + 1 by omega))) _

/-- The state after group 1. -/
theorem rest_init : k0_pay279 v61 v68 (restRun.sl.r_15 arg14 X14) (restRun.sl.r_26 c arg14 arg16 harg16 v61 v68 X14 h) = (scan v61 v68 (arg14.view.read (Elt F) X14) h) 64 := by
  have e : k0_pay279 v61 v68 (restRun.sl.r_15 arg14 X14) (restRun.sl.r_26 c arg14 arg16 harg16 v61 v68 X14 h) = gscan v61 v68 (arg14.view.readAt (Elt F) (Rect.unit (s := S512x1536) ![32, 0] S32x1536.size inb_S512x1536_S32x1536_32_0).toLoadRect X14)
      (gscan v61 v68 (arg14.view.readAt (Elt F) (Rect.unit (s := S512x1536) ![0, 0] S32x1536.size inb_S512x1536_S32x1536_0_0).toLoadRect X14)
      (arg16.view.readAt (Elt F) (Rect.unit (s := S16x1536) ![0, 0] S16x1536.size inb_S16x1536_S16x1536_0_0).toLoadRect (harg16.unread h)) 32) 32 := rfl
  rw [e, rest_mid, readAt_rows32 arg14.view X14 32 rfl]
  exact gscan_eq v61 v68 _ h 32 32 (Nat.le_refl _)

/-- The outputs of group 0. -/
theorem rest_y0 (j : S512x1536.Idx) :
    arg15.view.read (Elt F) (arg15.view.writes (Elt F) f15 [⟨Rect.unit ![0, 0] S32x1536.size inb_S512x1536_S32x1536_0_0, k0_pay281 (k0_pay145 v69 v70 c16_i32 v71) (restRun.sl.v684 c arg14 arg16 harg16 arg17 v61 v68 X14 h)⟩]) j
      = if (j 0).val < 32 then ySpec (k0_pay145 v69 v70 c16_i32 v71) (scan v61 v68 (arg14.view.read (Elt F) X14) h) j else arg15.view.read (Elt F) f15 j := by
  have e : k0_pay281 (k0_pay145 v69 v70 c16_i32 v71) (restRun.sl.v684 c arg14 arg16 harg16 arg17 v61 v68 X14 h) = redY (k0_pay145 v69 v70 c16_i32 v71) (stack fun n => (scan v61 v68 (arg14.view.read (Elt F) X14) h) (32 * 0 + n + 1)) := by
    have e0 : restRun.sl.v684 c arg14 arg16 harg16 arg17 v61 v68 X14 h = stack fun n => (scan v61 v68 (arg14.view.read (Elt F) X14) h) (32 * 0 + n + 1) := by
      refine (readAt_all arg17.view (arg17.view.writes (Elt F) arg17.view.junk (restRun.sl.H17_32 c arg14 arg16 harg16 v61 v68 X14 h)) _).trans ?_
      rw [rest17, read_pcs_all]
    rw [e0]; rfl
  rw [e, View.read_writes_cons_rows arg15.view _ (size := S32x1536.size) (o := 0) (W := 32) _ _ _ j rfl rfl rfl]
  split
  · next hh =>
    rw [if_pos (by omega)]
    exact ySpec_piece _ _ 0 0 rfl j hh _
  · next hh => rw [if_neg (by omega), View.writes_nil]

/-- What the loop leaves: the last state, the pending group, the outputs of the first 15 groups. -/
theorem rest_loop :
    (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 (k0_pay145 v69 v70 c16_i32 v71) (restRun.sl.r_15 arg14 X14) (restRun.sl.r_26 c arg14 arg16 harg16 v61 v68 X14 h) (restRun.sl.r_27 c arg14 arg16 harg16 v61 v68 X14 h) X14 (arg15.view.writes (Elt F) f15 [⟨Rect.unit ![0, 0] S32x1536.size inb_S512x1536_S32x1536_0_0, k0_pay281 (k0_pay145 v69 v70 c16_i32 v71) (restRun.sl.v684 c arg14 arg16 harg16 arg17 v61 v68 X14 h)⟩]) (arg17.view.writes (Elt F) arg17.view.junk (restRun.sl.H17_32 c arg14 arg16 harg16 v61 v68 X14 h)) (arg18.view.writes (Elt F) arg18.view.junk (restRun.sl.H18_32 c arg14 arg16 harg16 v61 v68 X14 h)) (k0_pay279 v61 v68 (restRun.sl.r_15 arg14 X14) (restRun.sl.r_26 c arg14 arg16 harg16 v61 v68 X14 h)) 7).1 = (scan v61 v68 (arg14.view.read (Elt F) X14) h) (64 * 7 + 64) ∧
      arg18.view.read (Elt F) (arg18.view.writes (Elt F) (arg18.view.writes (Elt F) arg18.view.junk (restRun.sl.H18_32 c arg14 arg16 harg16 v61 v68 X14 h)) (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 (k0_pay145 v69 v70 c16_i32 v71) (restRun.sl.r_15 arg14 X14) (restRun.sl.r_26 c arg14 arg16 harg16 v61 v68 X14 h) (restRun.sl.r_27 c arg14 arg16 harg16 v61 v68 X14 h) X14 (arg15.view.writes (Elt F) f15 [⟨Rect.unit ![0, 0] S32x1536.size inb_S512x1536_S32x1536_0_0, k0_pay281 (k0_pay145 v69 v70 c16_i32 v71) (restRun.sl.v684 c arg14 arg16 harg16 arg17 v61 v68 X14 h)⟩]) (arg17.view.writes (Elt F) arg17.view.junk (restRun.sl.H17_32 c arg14 arg16 harg16 v61 v68 X14 h)) (arg18.view.writes (Elt F) arg18.view.junk (restRun.sl.H18_32 c arg14 arg16 harg16 v61 v68 X14 h)) (k0_pay279 v61 v68 (restRun.sl.r_15 arg14 X14) (restRun.sl.r_26 c arg14 arg16 harg16 v61 v68 X14 h)) 7).2.2.2) = (stack fun n => (scan v61 v68 (arg14.view.read (Elt F) X14) h) (32 * (2 * 7 + 1) + n + 1)) ∧
      ∀ j : S512x1536.Idx, arg15.view.read (Elt F) (arg15.view.writes (Elt F) (arg15.view.writes (Elt F) f15 [⟨Rect.unit ![0, 0] S32x1536.size inb_S512x1536_S32x1536_0_0, k0_pay281 (k0_pay145 v69 v70 c16_i32 v71) (restRun.sl.v684 c arg14 arg16 harg16 arg17 v61 v68 X14 h)⟩]) (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 (k0_pay145 v69 v70 c16_i32 v71) (restRun.sl.r_15 arg14 X14) (restRun.sl.r_26 c arg14 arg16 harg16 v61 v68 X14 h) (restRun.sl.r_27 c arg14 arg16 harg16 v61 v68 X14 h) X14 (arg15.view.writes (Elt F) f15 [⟨Rect.unit ![0, 0] S32x1536.size inb_S512x1536_S32x1536_0_0, k0_pay281 (k0_pay145 v69 v70 c16_i32 v71) (restRun.sl.v684 c arg14 arg16 harg16 arg17 v61 v68 X14 h)⟩]) (arg17.view.writes (Elt F) arg17.view.junk (restRun.sl.H17_32 c arg14 arg16 harg16 v61 v68 X14 h)) (arg18.view.writes (Elt F) arg18.view.junk (restRun.sl.H18_32 c arg14 arg16 harg16 v61 v68 X14 h)) (k0_pay279 v61 v68 (restRun.sl.r_15 arg14 X14) (restRun.sl.r_26 c arg14 arg16 harg16 v61 v68 X14 h)) 7).2.1) j
        = if 32 ≤ (j 0).val ∧ (j 0).val < 64 * 7 + 32 then ySpec (k0_pay145 v69 v70 c16_i32 v71) (scan v61 v68 (arg14.view.read (Elt F) X14) h) j
          else arg15.view.read (Elt F) (arg15.view.writes (Elt F) f15 [⟨Rect.unit ![0, 0] S32x1536.size inb_S512x1536_S32x1536_0_0, k0_pay281 (k0_pay145 v69 v70 c16_i32 v71) (restRun.sl.v684 c arg14 arg16 harg16 arg17 v61 v68 X14 h)⟩]) j :=
  loop_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 (k0_pay145 v69 v70 c16_i32 v71) (restRun.sl.r_15 arg14 X14) (restRun.sl.r_26 c arg14 arg16 harg16 v61 v68 X14 h) (restRun.sl.r_27 c arg14 arg16 harg16 v61 v68 X14 h) X14 h (arg15.view.writes (Elt F) f15 [⟨Rect.unit ![0, 0] S32x1536.size inb_S512x1536_S32x1536_0_0, k0_pay281 (k0_pay145 v69 v70 c16_i32 v71) (restRun.sl.v684 c arg14 arg16 harg16 arg17 v61 v68 X14 h)⟩])
    (arg17.view.writes (Elt F) arg17.view.junk (restRun.sl.H17_32 c arg14 arg16 harg16 v61 v68 X14 h)) (arg18.view.writes (Elt F) arg18.view.junk (restRun.sl.H18_32 c arg14 arg16 harg16 v61 v68 X14 h))
    (k0_pay279 v61 v68 (restRun.sl.r_15 arg14 X14) (restRun.sl.r_26 c arg14 arg16 harg16 v61 v68 X14 h)) (rest_init c arg14 arg16 harg16 v61 v68 X14 h)
    (by rw [rest18, read_pcs_all]) 7 (Nat.le_refl _)

/-- The state the point leaves is the scan's after its 512 rows. -/
theorem rest_h (f16 : arg16.view.ty.Contents (Elt F)) : arg16.view.read (Elt F) (arg16.view.writes (Elt F) f16 ((restRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v61 v68 v69 v70 c16_i32 v71 x8 x9 X14 h).2.1 f15 f17 f18)) = (scan v61 v68 (arg14.view.read (Elt F) X14) h) 512 := by
  have e : (restRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v61 v68 v69 v70 c16_i32 v71 x8 x9 X14 h).2.1 f15 f17 f18 = [⟨Rect.unit (s := S16x1536) ![0, 0] S16x1536.size inb_S16x1536_S16x1536_0_0, k0_pay2 (((scan v61 v68 (arg14.view.read (Elt F) X14) h) 512))⟩] := by
    unfold restRun
    exact congrArg (fun s => [(⟨Rect.unit (s := S16x1536) ![0, 0] S16x1536.size inb_S16x1536_S16x1536_0_0, k0_pay2 s⟩ : View.Piece (Elt F) S16x1536 .bf16)]) (rest_loop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v69 v70 c16_i32 v71 X14 h f15).1
  rw [e, View.read_writes_full]
  exact shapeCast_self _ _

/-- The block the point stores: the projection of the scan's outputs, plus bias and residual. -/
theorem rest_out (f12 : arg12.view.ty.Contents (Elt F)) :
    arg12.view.read (Elt F) (arg12.view.writes (Elt F) f12 ((restRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v61 v68 v69 v70 c16_i32 v71 x8 x9 X14 h).1 f15 f17 f18)) = k0_pay3 v1 (ySpec (k0_pay145 v69 v70 c16_i32 v71) (scan v61 v68 (arg14.view.read (Elt F) X14) h)) x8 x9 := by
  have ey : restRun.sl.v702 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v69 v70 c16_i32 v71 X14 h f15 = ySpec (k0_pay145 v69 v70 c16_i32 v71) (scan v61 v68 (arg14.view.read (Elt F) X14) h) := by
    obtain ⟨h1, h2, h3⟩ := rest_loop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v69 v70 c16_i32 v71 X14 h f15
    refine (readAt_all arg15.view (arg15.view.writes (Elt F) f15 (restRun.sl.H15_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v69 v70 c16_i32 v71 X14 h f15)) _).trans ?_
    have ev : restRun.sl.v693 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v69 v70 c16_i32 v71 X14 h f15 = stack fun n => (scan v61 v68 (arg14.view.read (Elt F) X14) h) (32 * (2 * 7 + 1) + n + 1) := by
      refine Eq.trans ?_ h2
      refine (readAt_all arg18.view (arg18.view.writes (Elt F) arg18.view.junk (_ ++ restRun.sl.H18_32 c arg14 arg16 harg16 v61 v68 X14 h)) _).trans ?_
      rw [View.writes_append]
      rfl
    funext j
    unfold restRun.sl.H15_1
    rw [ev, View.read_writes_cons_rows arg15.view _ (size := ![32, 1536]) (o := 480) (W := 32) _ _ _ j rfl rfl rfl]
    split
    · next hh => exact ySpec_piece _ _ 15 480 rfl j hh _
    · next hh =>
      rw [View.writes_append]
      refine (h3 j).trans ?_
      by_cases hc : 32 ≤ (j 0).val
      · rw [if_pos (by have := (j 0).isLt; change (j 0).val < 512 at this; omega)]
      · rw [if_neg (by omega), rest_y0, if_pos (by omega)]
  have e : (restRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v61 v68 v69 v70 c16_i32 v71 x8 x9 X14 h).1 f15 f17 f18 = [⟨Rect.unit (s := S1x512x768) ![0, 0, 0] S1x512x768.size inb_S1x512x768_S1x512x768_0_0_0, k0_pay3 v1 (restRun.sl.v702 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v61 v68 v69 v70 c16_i32 v71 X14 h f15)
      (arg10.view.readAt (Elt F) (Rect.unit (s := S1536x768) ![0, 0] S1536x768.size inb_S1536x768_S1536x768_0_0).toLoadRect (harg10.unread x8))
      (arg11.view.readAt (Elt F) (Rect.unit (s := S1x768) ![0, 0] S1x768.size inb_S1x768_S1x768_0_0).toLoadRect (harg11.unread x9))⟩] := by
    unfold restRun
    rfl
  rw [e, View.read_writes_full, ey, View.readAt_full, View.readAt_full, harg10.read_unread, harg11.read_unread]

end Cert.KernelIdeal.Body

end
-- ==== Proof.KernelIdeal.Body.lean ====
/- One grid point: what the body leaves in its block of the result and in the carried scratch, from its input blocks and what the point before left. -/
module

public import proofs.«01_k».proof.Proof.KernelIdeal.Points
public import proofs.«01_k».proof.Proof.KernelIdeal.FrontEq
public import proofs.«01_k».proof.Proof.KernelIdeal.RestEq

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- The rest of a point, in terms of what its memrefs hold: the result's block holds the projection of the scan's outputs, and the carried state's scratch holds the scan's state after 512 rows. -/
theorem rest_owns (c : Dev nD) (i : grid0.Coords) (arg2 : Memref sig .tc .vmem S1x512x768 .f32) (harg2 : arg2.IsWhole) (arg3 : Memref sig .tc .vmem S1x768 .f32) (harg3 : arg3.IsWhole) (arg4 : Memref sig .tc .vmem S768x1536 .bf16) (harg4 : arg4.IsWhole) (arg5 : Memref sig .tc .vmem S1x1536 .f32) (harg5 : arg5.IsWhole) (arg6 : Memref sig .tc .vmem S4x1536 .f32) (harg6 : arg6.IsWhole) (arg7 : Memref sig .tc .vmem S16x1536 .f32) (harg7 : arg7.IsWhole) (arg8 : Memref sig .tc .vmem S16x1536 .f32) (harg8 : arg8.IsWhole) (arg9 : Memref sig .tc .vmem S16x1536 .f32) (harg9 : arg9.IsWhole) (arg10 : Memref sig .tc .vmem S1536x768 .bf16) (harg10 : arg10.IsWhole) (arg11 : Memref sig .tc .vmem S1x768 .f32) (harg11 : arg11.IsWhole) (arg12 : Memref sig .tc .vmem S1x512x768 .f32) (harg12 : arg12.IsWhole) (arg13 : Memref sig .tc .vmem S520x1536 .f32) (harg13 : arg13.IsWhole) (arg14 : Memref sig .tc .vmem S512x1536 .f32) (harg14 : arg14.IsWhole) (arg15 : Memref sig .tc .vmem S512x1536 .f32) (harg15 : arg15.IsWhole) (arg16 : Memref sig .tc .vmem S16x1536 .bf16) (harg16 : arg16.IsWhole) (arg17 : Memref sig .tc .vmem S512x1536 .bf16) (harg17 : arg17.IsWhole) (arg18 : Memref sig .tc .vmem S512x1536 .bf16) (harg18 : arg18.IsWhole) (v1 : FVec F S512x768 .f32) (v61 : FVec F S16x1536 .bf16) (v68 : FVec F S16x1536 .f32) (v69 : IVec S32x512 32) (v70 : IVec S32x512 32) (c16_i32 : BitVec 32) (v71 : IVec S32x512 32)
    (x8 : Vec F S1536x768 .bf16) (x9 : Vec F S1x768 .f32) (X : Vec F S512x1536 .f32) (h : Vec F S16x1536 .bf16) (E : Set ℕ) (K : PUnit → sProp 𝕄) :
    iprop(owns (c : Thread nD τ) arg10 fullShare x8 ∗ owns (c : Thread nD τ) arg11 fullShare x9 ∗ (∃ d, owns (c : Thread nD τ) arg12 fullShare d) ∗ owns (c : Thread nD τ) arg14 fullShare X ∗ (∃ d, owns (c : Thread nD τ) arg15 fullShare d) ∗ owns (c : Thread nD τ) arg16 fullShare h ∗ (∃ d, owns (c : Thread nD τ) arg17 fullShare d) ∗ (∃ d, owns (c : Thread nD τ) arg18 fullShare d)
        ∗ (iprop(owns (c : Thread nD τ) arg10 fullShare x8 ∗ owns (c : Thread nD τ) arg11 fullShare x9 ∗ owns (c : Thread nD τ) arg12 fullShare (k0_pay3 v1 (ySpec (k0_pay145 v69 v70 c16_i32 v71) (scan v61 v68 X h)) x8 x9) ∗ owns (c : Thread nD τ) arg14 fullShare X ∗ (∃ d, owns (c : Thread nD τ) arg15 fullShare d) ∗ owns (c : Thread nD τ) arg16 fullShare (scan v61 v68 X h 512) ∗ (∃ d, owns (c : Thread nD τ) arg17 fullShare d) ∗ (∃ d, owns (c : Thread nD τ) arg18 fullShare d)) -∗ K ⟨⟩))
      ⊢ wp frame (wpE (defs₀ (F := F)) Variants.none c none) E (rest i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v61 v68 v69 v70 c16_i32 v71) K := by
  have hr := fun f14 f15 f17 f18 => (restRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v61 v68 v69 v70 c16_i32 v71 x8 x9 f14 h).2.2 E K f15 f17 f18
  have ho := fun f14 f15 f17 f18 => rest_out c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v61 v68 v69 v70 c16_i32 v71 x8 x9 f14 h f15 f17 f18
  have hh := fun f14 f15 f17 f18 => rest_h c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v61 v68 v69 v70 c16_i32 v71 x8 x9 f14 h f15 f17 f18
  generalize restRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v61 v68 v69 v70 c16_i32 v71 x8 x9 = R at hr ho hh
  unfold owns at hr ⊢
  iintro ⟨H10, H11, H12, ⟨%f14, %hf14, H14⟩, ⟨%d15, %f15, -, H15⟩, H16, ⟨%d17, %f17, -, H17⟩, ⟨%d18, %f18, -, H18⟩, Hk⟩
  iapply (hr f14 f15 f17 f18)
  isplitl [H10]; · iexact H10
  isplitl [H11]; · iexact H11
  isplitl [H12]; · iexact H12
  isplitl [H14]; · iexact H14
  isplitl [H15]; · iexact H15
  isplitl [H16]; · iexact H16
  isplitl [H17]; · iexact H17
  isplitl [H18]; · iexact H18
  iintro ⟨H10, H11, ⟨%g12, H12⟩, H14, ⟨%g15, H15⟩, ⟨%g16, H16⟩, ⟨%g17, H17⟩, ⟨%g18, H18⟩⟩
  iapply Hk
  isplitl [H10]; · iexact H10
  isplitl [H11]; · iexact H11
  isplitl [H12]
  · iexists _; isplitr; swap; · iexact H12
    ipureintro; rw [ho f14 f15 f17 f18 g12, hf14]
  isplitl [H14]
  · iexists f14; isplitr; · ipureintro; exact hf14
    iexact H14
  isplitl [H15]
  · iexists _; iexists g15; isplitr; · ipureintro; rfl
    iexact H15
  isplitl [H16]
  · iexists _; isplitr; swap; · iexact H16
    ipureintro; rw [hh f14 f15 f17 f18 g16, hf14]
  isplitl [H17]
  · iexists _; iexists g17; isplitr; · ipureintro; rfl
    iexact H17
  iexists _; iexists g18; isplitr; · ipureintro; rfl
  iexact H18

/-- The rows a point keeps for its convolution: the eight at the top, then its own projected rows. -/
def keptRows (tail : Vec F S8x1536 .f32) (x0 : Vec F S1x512x768 .f32) (x1 : Vec F S1x768 .f32) (x2 : Vec F S768x1536 .bf16) (x3 : Vec F S1x1536 .f32) : Vec F S520x1536 .f32 :=
  xpsOf tail (k0_pay140 x0 x1 x2 x3)

/-- The states a point's scan runs through, from the state `h` it starts with. -/
def states (tail : Vec F S8x1536 .f32) (h : Vec F S16x1536 .bf16) (x0 : Vec F S1x512x768 .f32) (x1 : Vec F S1x768 .f32) (x2 : Vec F S768x1536 .bf16) (x3 : Vec F S1x1536 .f32) (x4 : Vec F S4x1536 .f32) (x5 : Vec F S16x1536 .f32) (x6 : Vec F S16x1536 .f32) (x7 : Vec F S16x1536 .f32) : ℕ → St F :=
  scan (k0_pay142 x5) (k0_pay143 x6 x7) (xcOf (k0_pay136 x0 x1 x2 x3) (keptRows tail x0 x1 x2 x3) x4) h

/-- The block of the result a point stores. -/
def blockOut (tail : Vec F S8x1536 .f32) (h : Vec F S16x1536 .bf16) (x0 : Vec F S1x512x768 .f32) (x1 : Vec F S1x768 .f32) (x2 : Vec F S768x1536 .bf16) (x3 : Vec F S1x1536 .f32) (x4 : Vec F S4x1536 .f32) (x5 : Vec F S16x1536 .f32) (x6 : Vec F S16x1536 .f32) (x7 : Vec F S16x1536 .f32) (x8 : Vec F S1536x768 .bf16) (x9 : Vec F S1x768 .f32) : Vec F S1x512x768 .f32 :=
  k0_pay3 (k0_pay135 x0) (ySpec selW (states tail h x0 x1 x2 x3 x4 x5 x6 x7)) x8 x9

/-- The body is its front followed by its rest. -/
theorem body_split (i : grid0.Coords) (arg2 : Memref sig .tc .vmem S1x512x768 .f32) (harg2 : arg2.IsWhole) (arg3 : Memref sig .tc .vmem S1x768 .f32) (harg3 : arg3.IsWhole) (arg4 : Memref sig .tc .vmem S768x1536 .bf16) (harg4 : arg4.IsWhole) (arg5 : Memref sig .tc .vmem S1x1536 .f32) (harg5 : arg5.IsWhole) (arg6 : Memref sig .tc .vmem S4x1536 .f32) (harg6 : arg6.IsWhole) (arg7 : Memref sig .tc .vmem S16x1536 .f32) (harg7 : arg7.IsWhole) (arg8 : Memref sig .tc .vmem S16x1536 .f32) (harg8 : arg8.IsWhole) (arg9 : Memref sig .tc .vmem S16x1536 .f32) (harg9 : arg9.IsWhole) (arg10 : Memref sig .tc .vmem S1536x768 .bf16) (harg10 : arg10.IsWhole) (arg11 : Memref sig .tc .vmem S1x768 .f32) (harg11 : arg11.IsWhole) (arg12 : Memref sig .tc .vmem S1x512x768 .f32) (harg12 : arg12.IsWhole) (arg13 : Memref sig .tc .vmem S520x1536 .f32) (harg13 : arg13.IsWhole) (arg14 : Memref sig .tc .vmem S512x1536 .f32) (harg14 : arg14.IsWhole) (arg15 : Memref sig .tc .vmem S512x1536 .f32) (harg15 : arg15.IsWhole) (arg16 : Memref sig .tc .vmem S16x1536 .bf16) (harg16 : arg16.IsWhole) (arg17 : Memref sig .tc .vmem S512x1536 .bf16) (harg17 : arg17.IsWhole) (arg18 : Memref sig .tc .vmem S512x1536 .bf16) (harg18 : arg18.IsWhole) :
    cc0_mamba_block_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = front i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 >>= fun r => rest i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 r.1 r.2.1 r.2.2.1 r.2.2.2.1 r.2.2.2.2.1 r.2.2.2.2.2.1 r.2.2.2.2.2.2 := by
  unfold front cc0_mamba_block_skel
  rw [bind_assoc]
  refine congrArg (bind _) (funext fun ⟨_, _, _⟩ => ?_)
  rw [bind_assoc]
  refine congrArg (bind _) (funext fun ⟨_, _, _, _, _, _⟩ => ?_)
  rw [pure_bind]
  rfl

set_option maxHeartbeats 2000000 in
/-- The body at the start of a sequence. -/
theorem bodyA (c : Dev nD) (i : grid0.Coords) (arg2 : Memref sig .tc .vmem S1x512x768 .f32) (harg2 : arg2.IsWhole) (arg3 : Memref sig .tc .vmem S1x768 .f32) (harg3 : arg3.IsWhole) (arg4 : Memref sig .tc .vmem S768x1536 .bf16) (harg4 : arg4.IsWhole) (arg5 : Memref sig .tc .vmem S1x1536 .f32) (harg5 : arg5.IsWhole) (arg6 : Memref sig .tc .vmem S4x1536 .f32) (harg6 : arg6.IsWhole) (arg7 : Memref sig .tc .vmem S16x1536 .f32) (harg7 : arg7.IsWhole) (arg8 : Memref sig .tc .vmem S16x1536 .f32) (harg8 : arg8.IsWhole) (arg9 : Memref sig .tc .vmem S16x1536 .f32) (harg9 : arg9.IsWhole) (arg10 : Memref sig .tc .vmem S1536x768 .bf16) (harg10 : arg10.IsWhole) (arg11 : Memref sig .tc .vmem S1x768 .f32) (harg11 : arg11.IsWhole) (arg12 : Memref sig .tc .vmem S1x512x768 .f32) (harg12 : arg12.IsWhole) (arg13 : Memref sig .tc .vmem S520x1536 .f32) (harg13 : arg13.IsWhole) (arg14 : Memref sig .tc .vmem S512x1536 .f32) (harg14 : arg14.IsWhole) (arg15 : Memref sig .tc .vmem S512x1536 .f32) (harg15 : arg15.IsWhole) (arg16 : Memref sig .tc .vmem S16x1536 .bf16) (harg16 : arg16.IsWhole) (arg17 : Memref sig .tc .vmem S512x1536 .bf16) (harg17 : arg17.IsWhole) (arg18 : Memref sig .tc .vmem S512x1536 .bf16) (harg18 : arg18.IsWhole) (hc0 : startsSeq i) (hc1 : ¬insideSeq i) (x0 : Vec F S1x512x768 .f32) (x1 : Vec F S1x768 .f32) (x2 : Vec F S768x1536 .bf16) (x3 : Vec F S1x1536 .f32) (x4 : Vec F S4x1536 .f32) (x5 : Vec F S16x1536 .f32) (x6 : Vec F S16x1536 .f32) (x7 : Vec F S16x1536 .f32) (x8 : Vec F S1536x768 .bf16) (x9 : Vec F S1x768 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (blockOut k0_pay137 k0_pay138 x0 x1 x2 x3 x4 x5 x6 x7 x8 x9) ∗ owns (c : Thread nD τ) arg13 fullShare (keptRows k0_pay137 x0 x1 x2 x3) ∗ (∃ d, owns (c : Thread nD τ) arg14 fullShare d) ∗ (∃ d, owns (c : Thread nD τ) arg15 fullShare d) ∗ owns (c : Thread nD τ) arg16 fullShare (states k0_pay137 k0_pay138 x0 x1 x2 x3 x4 x5 x6 x7 512) ∗ (∃ d, owns (c : Thread nD τ) arg17 fullShare d) ∗ (∃ d, owns (c : Thread nD τ) arg18 fullShare d)) -∗ K ⟨⟩))
      ⊢ wp frame (wpE (defs₀ (F := F)) Variants.none c none) E (cc0_mamba_block i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [cc0_mamba_block_eq_skeleton, body_split, wp_bind]
  have hf := fun K => (frontA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7).2.2.2.2 E K
  have h13 := fun f => frontA_xs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 f
  have h14 := fun f => frontA_xc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 f
  have h16 := fun f => frontA_h c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 f
  have hr := frontA_r c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7
  generalize frontA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 = R at hf h13 h14 hr h16
  obtain ⟨r, L⟩ := R
  obtain rfl := hr
  iintro ⟨H2, H3, H4, H5, H6, H7, H8, H9, H10, H11, H12, H13, H14, H15, H16, H17, H18, Hk⟩
  iapply (hf _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H13]; · iexact H13
  isplitl [H14]; · iexact H14
  isplitl [H16]; · iexact H16
  iintro ⟨H2, H3, H4, H5, H6, H7, H8, H9, ⟨%f13, H13⟩, ⟨%f14, H14⟩, ⟨%f16, H16⟩⟩
  iapply (rest_owns c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ _ _ x8 x9 (xcOf (k0_pay136 x0 x1 x2 x3) (keptRows k0_pay137 x0 x1 x2 x3) x4) k0_pay138 E K)
  isplitl [H10]; · iexact H10
  isplitl [H11]; · iexact H11
  isplitl [H12]; · iexact H12
  isplitl [H14]
  · unfold owns; iexists _; isplitr; swap; · iexact H14
    ipureintro; exact h14 f14
  isplitl [H15]; · iexact H15
  isplitl [H16]
  · unfold owns; iexists _; isplitr; swap; · iexact H16
    ipureintro; exact h16 f16
  isplitl [H17]; · iexact H17
  isplitl [H18]; · iexact H18
  iintro ⟨H10, H11, H12, H14, H15, H16, H17, H18⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr; swap; · iexact H13
    ipureintro; exact h13 f13
  isplitl [H14]; · iexists _; iexact H14
  isplitl [H15]; · iexact H15
  isplitl [H16]; · iexact H16
  isplitl [H17]; · iexact H17
  iexact H18

set_option maxHeartbeats 2000000 in
/-- The body inside a sequence, from what the point before left in the carried scratch. -/
theorem bodyB (c : Dev nD) (i : grid0.Coords) (arg2 : Memref sig .tc .vmem S1x512x768 .f32) (harg2 : arg2.IsWhole) (arg3 : Memref sig .tc .vmem S1x768 .f32) (harg3 : arg3.IsWhole) (arg4 : Memref sig .tc .vmem S768x1536 .bf16) (harg4 : arg4.IsWhole) (arg5 : Memref sig .tc .vmem S1x1536 .f32) (harg5 : arg5.IsWhole) (arg6 : Memref sig .tc .vmem S4x1536 .f32) (harg6 : arg6.IsWhole) (arg7 : Memref sig .tc .vmem S16x1536 .f32) (harg7 : arg7.IsWhole) (arg8 : Memref sig .tc .vmem S16x1536 .f32) (harg8 : arg8.IsWhole) (arg9 : Memref sig .tc .vmem S16x1536 .f32) (harg9 : arg9.IsWhole) (arg10 : Memref sig .tc .vmem S1536x768 .bf16) (harg10 : arg10.IsWhole) (arg11 : Memref sig .tc .vmem S1x768 .f32) (harg11 : arg11.IsWhole) (arg12 : Memref sig .tc .vmem S1x512x768 .f32) (harg12 : arg12.IsWhole) (arg13 : Memref sig .tc .vmem S520x1536 .f32) (harg13 : arg13.IsWhole) (arg14 : Memref sig .tc .vmem S512x1536 .f32) (harg14 : arg14.IsWhole) (arg15 : Memref sig .tc .vmem S512x1536 .f32) (harg15 : arg15.IsWhole) (arg16 : Memref sig .tc .vmem S16x1536 .bf16) (harg16 : arg16.IsWhole) (arg17 : Memref sig .tc .vmem S512x1536 .bf16) (harg17 : arg17.IsWhole) (arg18 : Memref sig .tc .vmem S512x1536 .bf16) (harg18 : arg18.IsWhole) (hc0 : ¬startsSeq i) (hc1 : insideSeq i) (x0 : Vec F S1x512x768 .f32) (x1 : Vec F S1x768 .f32) (x2 : Vec F S768x1536 .bf16) (x3 : Vec F S1x1536 .f32) (x4 : Vec F S4x1536 .f32) (x5 : Vec F S16x1536 .f32) (x6 : Vec F S16x1536 .f32) (x7 : Vec F S16x1536 .f32) (x8 : Vec F S1536x768 .bf16) (x9 : Vec F S1x768 .f32) (xs0 : Vec F S520x1536 .f32) (h : Vec F S16x1536 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xs0 ∗ (∃ d, owns (c : Thread nD τ) arg14 fullShare d) ∗ (∃ d, owns (c : Thread nD τ) arg15 fullShare d) ∗ owns (c : Thread nD τ) arg16 fullShare h ∗ (∃ d, owns (c : Thread nD τ) arg17 fullShare d) ∗ (∃ d, owns (c : Thread nD τ) arg18 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (blockOut (k0_pay139 (rows8 xs0)) h x0 x1 x2 x3 x4 x5 x6 x7 x8 x9) ∗ owns (c : Thread nD τ) arg13 fullShare (keptRows (k0_pay139 (rows8 xs0)) x0 x1 x2 x3) ∗ (∃ d, owns (c : Thread nD τ) arg14 fullShare d) ∗ (∃ d, owns (c : Thread nD τ) arg15 fullShare d) ∗ owns (c : Thread nD τ) arg16 fullShare (states (k0_pay139 (rows8 xs0)) h x0 x1 x2 x3 x4 x5 x6 x7 512) ∗ (∃ d, owns (c : Thread nD τ) arg17 fullShare d) ∗ (∃ d, owns (c : Thread nD τ) arg18 fullShare d)) -∗ K ⟨⟩))
      ⊢ wp frame (wpE (defs₀ (F := F)) Variants.none c none) E (cc0_mamba_block i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [cc0_mamba_block_eq_skeleton, body_split, wp_bind]
  have hf := fun K => (frontB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs0).2.2.2 E K
  have h13 := fun f => frontB_xs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs0 f
  have h14 := fun f => frontB_xc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs0 f
  have hr := frontB_r c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs0
  generalize frontB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs0 = R at hf h13 h14 hr
  obtain ⟨r, L⟩ := R
  obtain rfl := hr
  iintro ⟨H2, H3, H4, H5, H6, H7, H8, H9, H10, H11, H12, H13, H14, H15, H16, H17, H18, Hk⟩
  iapply (hf _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H13]; · iexact H13
  isplitl [H14]; · iexact H14
  iintro ⟨H2, H3, H4, H5, H6, H7, H8, H9, ⟨%f13, H13⟩, ⟨%f14, H14⟩⟩
  iapply (rest_owns c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ _ _ x8 x9 (xcOf (k0_pay136 x0 x1 x2 x3) (keptRows (k0_pay139 (rows8 xs0)) x0 x1 x2 x3) x4) h E K)
  isplitl [H10]; · iexact H10
  isplitl [H11]; · iexact H11
  isplitl [H12]; · iexact H12
  isplitl [H14]
  · unfold owns; iexists _; isplitr; swap; · iexact H14
    ipureintro; exact h14 f14
  isplitl [H15]; · iexact H15
  isplitl [H16]
  · iexact H16
  isplitl [H17]; · iexact H17
  isplitl [H18]; · iexact H18
  iintro ⟨H10, H11, H12, H14, H15, H16, H17, H18⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr; swap; · iexact H13
    ipureintro; exact h13 f13
  isplitl [H14]; · iexists _; iexact H14
  isplitl [H15]; · iexact H15
  isplitl [H16]; · iexact H16
  isplitl [H17]; · iexact H17
  iexact H18

end Cert.KernelIdeal.Body

end
-- ==== Proof.KernelIdeal.Run.lean ====
/- The run of the pipeline: what each grid point starts from and leaves, point by point, and the frame. -/
module

public import proofs.«01_k».proof.Proof.KernelIdeal.Points
public import proofs.«01_k».proof.Proof.KernelIdeal.Body
public import proofs.«01_k».proof.Proof.Gen.KernelIdeal.Frame
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The rows point `t` keeps, when `tail` is at their top. -/
def keptAt (c : Dev nD) (tail : Vec F S8x1536 .f32) (t : Fin cfg0.N) : Vec F S520x1536 .f32 :=
  keptRows tail (iblk m c 0 t) (iblk m c 1 t) (iblk m c 2 t) (iblk m c 3 t)

/-- The states of point `t`'s scan, from the eight rows and the state it starts with. -/
def statesAt (c : Dev nD) (p : Vec F S8x1536 .f32 × St F) (t : Fin cfg0.N) : ℕ → St F :=
  states p.1 p.2 (iblk m c 0 t) (iblk m c 1 t) (iblk m c 2 t) (iblk m c 3 t) (iblk m c 4 t) (iblk m c 5 t) (iblk m c 6 t) (iblk m c 7 t)

/-- What a point starts from: zeros at the first point of a sequence, and otherwise the last rows and the last state of the point before. -/
def startOf (c : Dev nD) : (n : ℕ) → n < cfg0.N → Vec F S8x1536 .f32 × St F
  | 0, _ => (k0_pay137, k0_pay138)
  | n + 1, hn =>
      let p := startOf c n (Nat.lt_of_succ_lt hn)
      if (n + 1) % 4 = 0 then (k0_pay137, k0_pay138)
      else (k0_pay139 (rows8 (keptAt m c p.1 ⟨n, Nat.lt_of_succ_lt hn⟩)), statesAt m c p ⟨n, Nat.lt_of_succ_lt hn⟩ 512)

/-- The first point of a sequence starts from zeros. -/
theorem startOf_first (c : Dev nD) (n : ℕ) (hn : n < cfg0.N) (h : n % 4 = 0) : startOf m c n hn = (k0_pay137, k0_pay138) := by
  cases n with
  | zero => rfl
  | succ n => exact if_pos h

/-- Another point starts from what the point before leaves. -/
theorem startOf_next (c : Dev nD) (n : ℕ) (hn : n + 1 < cfg0.N) (h : ¬(n + 1) % 4 = 0) :
    startOf m c (n + 1) hn = (k0_pay139 (rows8 (keptAt m c (startOf m c n (Nat.lt_of_succ_lt hn)).1 ⟨n, Nat.lt_of_succ_lt hn⟩)),
      statesAt m c (startOf m c n (Nat.lt_of_succ_lt hn)) ⟨n, Nat.lt_of_succ_lt hn⟩ 512) := if_neg h

/-- The rows point `n` leaves. -/
def keptBy (c : Dev nD) (n : ℕ) (hn : n < cfg0.N) : Vec F S520x1536 .f32 := keptAt m c (startOf m c n hn).1 ⟨n, hn⟩

/-- The state point `n` leaves. -/
def stateBy (c : Dev nD) (n : ℕ) (hn : n < cfg0.N) : St F := statesAt m c (startOf m c n hn) ⟨n, hn⟩ 512

/-- The block of the result point `t` stores. -/
def storedBy (c : Dev nD) (t : Fin cfg0.N) : Vec F S1x512x768 .f32 :=
  blockOut (startOf m c t.val t.isLt).1 (startOf m c t.val t.isLt).2 (iblk m c 0 t) (iblk m c 1 t) (iblk m c 2 t) (iblk m c 3 t) (iblk m c 4 t) (iblk m c 5 t) (iblk m c 6 t) (iblk m c 7 t) (iblk m c 8 t) (iblk m c 9 t)

/-- What holds of the scratch before point `n`: nothing is said of it before the first point; later the carried buffers hold what the point before left. -/
def Inv (c : Dev nD) : (n : ℕ) → n ≤ cfg0.N → sProp 𝕄
  | 0, _ => Pipeline.ΦA spec0 c
  | n + 1, hn => iprop(iprop(owns (c : Thread nD τ) scM0_0 fullShare (keptBy m c n hn) ∗ (∃ d, owns (c : Thread nD τ) scM0_1 fullShare d) ∗ (∃ d, owns (c : Thread nD τ) scM0_2 fullShare d) ∗ owns (c : Thread nD τ) scM0_3 fullShare (stateBy m c n hn) ∗ (∃ d, owns (c : Thread nD τ) scM0_4 fullShare d) ∗ (∃ d, owns (c : Thread nD τ) scM0_5 fullShare d)) ∗ (∃ r, prngReg c r))

/-- Whatever the invariant says, the scratch holds something. -/
theorem Inv_forget (c : Dev nD) (n : ℕ) (hn : n ≤ cfg0.N) : Inv m c n hn ⊢ Pipeline.ΦA spec0 c := by
  cases n with
  | zero => exact Entails.refl _
  | succ n =>
    rw [PhiA0_eq]
    unfold Inv
    iintro ⟨⟨H0, H1, H2, H3, H4, H5⟩, Hg⟩
    isplitl [H0 H1 H2 H3 H4 H5]
    · isplitl [H0]; · iexists _; iexact H0
      isplitl [H1]; · iexact H1
      isplitl [H2]; · iexact H2
      isplitl [H3]; · iexists _; iexact H3
      isplitl [H4]; · iexact H4
      iexact H5
    iexact Hg

/-- The pipeline's proof data: an input's buffer keeps its block, the result's buffer is left at what the point stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => storedBy m c t
  Φ t := Inv m c t.val (Nat.le_of_lt_succ t.isLt)
  q _ := fullShare
  owed _ := 0

/-- The arrays are as the region finds them. -/
theorem dats_A (c : Dev nD) (w : Fin cfg0.W) : (dats m 0 c).A w = V m c (Pipeline.arrRef spec0 w) := by
  dsimp only [dats]

/-- The invariant before point `t`. -/
theorem dats_Φ (c : Dev nD) (t : Fin cfg0.N) : (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = storedBy m c t := by dsimp only [dats]
theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d
theorem before_4 (c : Dev nD) (t : Fin cfg0.N) (d) : (dats m 0 c).before 4 t d = iblk m c 4 t :=
  before0_4_of m (dats m 0 c) (dats_A m c 4) (after_4 m c) t d
theorem before_5 (c : Dev nD) (t : Fin cfg0.N) (d) : (dats m 0 c).before 5 t d = iblk m c 5 t :=
  before0_5_of m (dats m 0 c) (dats_A m c 5) (after_5 m c) t d
theorem before_6 (c : Dev nD) (t : Fin cfg0.N) (d) : (dats m 0 c).before 6 t d = iblk m c 6 t :=
  before0_6_of m (dats m 0 c) (dats_A m c 6) (after_6 m c) t d
theorem before_7 (c : Dev nD) (t : Fin cfg0.N) (d) : (dats m 0 c).before 7 t d = iblk m c 7 t :=
  before0_7_of m (dats m 0 c) (dats_A m c 7) (after_7 m c) t d
theorem before_8 (c : Dev nD) (t : Fin cfg0.N) (d) : (dats m 0 c).before 8 t d = iblk m c 8 t :=
  before0_8_of m (dats m 0 c) (dats_A m c 8) (after_8 m c) t d
theorem before_9 (c : Dev nD) (t : Fin cfg0.N) (d) : (dats m 0 c).before 9 t d = iblk m c 9 t :=
  before0_9_of m (dats m 0 c) (dats_A m c 9) (after_9 m c) t d

/-- What a point's body is called with, its input blocks named. -/
def Pre (c : Dev nD) (t : Fin cfg0.N) (I : sProp 𝕄) : sProp 𝕄 :=
  iprop(I ∗ (dats m 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ (∃ d, owns (c : Thread nD τ) (ms0_10 t) fullShare d))

/-- What it returns. -/
def Post (c : Dev nD) (t : Fin cfg0.N) (I : sProp 𝕄) : sProp 𝕄 :=
  iprop(I ∗ (dats m 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (storedBy m c t))

set_option maxHeartbeats 2000000 in
/-- At the first point of a sequence the body needs nothing of the scratch. -/
theorem pointA (c : Dev nD) (t : Fin cfg0.N) (h : t.val % 4 = 0) :
    Pre m c t iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r))
      ⊢ wp frame (wpE (defs₀ (F := F)) Variants.none c none) Set.univ (bodyAt0 t) (fun _ => Post m c t iprop(iprop(owns (c : Thread nD τ) scM0_0 fullShare (keptBy m c t.val t.isLt) ∗ (∃ d, owns (c : Thread nD τ) scM0_1 fullShare d) ∗ (∃ d, owns (c : Thread nD τ) scM0_2 fullShare d) ∗ owns (c : Thread nD τ) scM0_3 fullShare (stateBy m c t.val t.isLt) ∗ (∃ d, owns (c : Thread nD τ) scM0_4 fullShare d) ∗ (∃ d, owns (c : Thread nD τ) scM0_5 fullShare d)) ∗ (∃ r, prngReg c r))) := by
  have hs := startOf_first m c t.val t.isLt h
  unfold Pre Post keptBy stateBy storedBy keptAt statesAt bodyAt0
  dsimp only
  rw [hs]
  iintro ⟨⟨⟨S0, S1, S2, S3, S4, S5⟩, Hg⟩, Ho, H0, H1, H2, H3, H4, H5, H6, H7, H8, H9, H10⟩
  iapply (bodyA c (grid0.coords t) _ _ _ _ _ _ _ _ _ _ _ _ _ _ _ _ _ _ _ _ _ _ _ _ _ _ _ _ _ _ _ _ _ _ ((startsSeq_iff t).mpr h) (fun h1 => by have := (insideSeq_iff t).mp h1; omega) (iblk m c 0 t) (iblk m c 1 t) (iblk m c 2 t) (iblk m c 3 t) (iblk m c 4 t) (iblk m c 5 t) (iblk m c 6 t) (iblk m c 7 t) (iblk m c 8 t) (iblk m c 9 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, H10, S0, S1, S2, S3, S4, S5⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 2000000 in
/-- At another point the body starts from what the point before left. -/
theorem pointB (c : Dev nD) (n : ℕ) (hn : n + 1 < cfg0.N) (h : ¬(n + 1) % 4 = 0) :
    Pre m c ⟨n + 1, hn⟩ iprop(iprop(owns (c : Thread nD τ) scM0_0 fullShare (keptBy m c n (Nat.lt_of_succ_lt hn)) ∗ (∃ d, owns (c : Thread nD τ) scM0_1 fullShare d) ∗ (∃ d, owns (c : Thread nD τ) scM0_2 fullShare d) ∗ owns (c : Thread nD τ) scM0_3 fullShare (stateBy m c n (Nat.lt_of_succ_lt hn)) ∗ (∃ d, owns (c : Thread nD τ) scM0_4 fullShare d) ∗ (∃ d, owns (c : Thread nD τ) scM0_5 fullShare d)) ∗ (∃ r, prngReg c r))
      ⊢ wp frame (wpE (defs₀ (F := F)) Variants.none c none) Set.univ (bodyAt0 ⟨n + 1, hn⟩) (fun _ => Post m c ⟨n + 1, hn⟩ iprop(iprop(owns (c : Thread nD τ) scM0_0 fullShare (keptBy m c (n + 1) hn) ∗ (∃ d, owns (c : Thread nD τ) scM0_1 fullShare d) ∗ (∃ d, owns (c : Thread nD τ) scM0_2 fullShare d) ∗ owns (c : Thread nD τ) scM0_3 fullShare (stateBy m c (n + 1) hn) ∗ (∃ d, owns (c : Thread nD τ) scM0_4 fullShare d) ∗ (∃ d, owns (c : Thread nD τ) scM0_5 fullShare d)) ∗ (∃ r, prngReg c r))) := by
  have hs := startOf_next m c n hn h
  unfold Pre Post keptBy stateBy storedBy keptAt statesAt bodyAt0
  dsimp only
  rw [hs]
  iintro ⟨⟨⟨S0, S1, S2, S3, S4, S5⟩, Hg⟩, Ho, H0, H1, H2, H3, H4, H5, H6, H7, H8, H9, H10⟩
  iapply (bodyB c (grid0.coords ⟨n + 1, hn⟩) _ _ _ _ _ _ _ _ _ _ _ _ _ _ _ _ _ _ _ _ _ _ _ _ _ _ _ _ _ _ _ _ _ _ (fun h0 => h ((startsSeq_iff ⟨n + 1, hn⟩).mp h0)) ((insideSeq_iff ⟨n + 1, hn⟩).mpr (Nat.one_le_iff_ne_zero.mpr h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (keptBy m c n (Nat.lt_of_succ_lt hn)) (stateBy m c n (Nat.lt_of_succ_lt hn)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, H10, S0, S1, S2, S3, S4, S5⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 2000000 in
/-- The body at any point, between the invariant before it and the one after it. -/
theorem point (c : Dev nD) (t : Fin cfg0.N) :
    Pre m c t (Inv m c t.val (Nat.le_of_lt t.isLt))
      ⊢ wp frame (wpE (defs₀ (F := F)) Variants.none c none) Set.univ (bodyAt0 t) (fun _ => Post m c t (Inv m c (t.val + 1) t.isLt)) := by
  by_cases h : t.val % 4 = 0
  · refine BIBase.Entails.trans ?_ (pointA m c t h)
    unfold Pre
    refine BIClass.sep_mono ?_ (Entails.refl _)
    rw [← PhiA0_eq]
    exact Inv_forget m c _ _
  · obtain ⟨n, hn⟩ := t
    cases n with
    | zero => exact absurd rfl h
    | succ n => exact pointB m c n hn h

/-- What the pipeline calls the body with, and what it takes back. -/
theorem point_restated (c : Dev nD) (t : Fin cfg0.N) :
    iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))
      ⊢ wp frame (wpE (defs₀ (F := F)) Variants.none c none) Set.univ (bodyAt0 t) (fun _ => iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))) := by
  refine BIBase.Entails.trans ?_ ((point m c t).trans (wp_mono _ _ _ fun _ => ?_))
  · simp only [before_0, before_1, before_2, before_3, before_4, before_5, before_6, before_7, before_8, before_9]
    rw [dats_Φ]
    unfold Pre
    iintro ⟨I, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    isplitl [I]; · iexact I
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · rw [show (dats m 0 c).owesAt () t.succ = (dats m 0 c).owesAt () t.castSucc from rfl, after_0, after_1, after_2, after_3, after_4, after_5, after_6, after_7, after_8, after_9, after_10,
      show (dats m 0 c).Φ t.succ = Inv m c (t.val + 1) t.isLt from rfl]
    exact Entails.refl _

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

/-- The pipeline's obligation of the body. -/
theorem body_obligation (c : Dev nD) : BodyObligation (dats (F := F) m 0 c) (defs₀ (F := F)) Variants.none () Set.univ := fun t => by
  rw [bigSep_W0, bigSep_W0, defs₀_row]
  exact triple_restated (point_restated m c t) rfl .rfl fun _ => .rfl

-- the run's implicit arguments are found by unifying with this statement, which unfolds plain definitions
set_option backward.isDefEq.respectTransparency.types false in
/-- The run: the pipeline's arrays end at what its proof data says, every other buffer as the region found it, and every semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := dats_A m)
    (hin := fun _ => Entails.refl _) (hout := fun c => Inv_forget m c (Fin.last cfg0.N).val (Nat.le_of_lt_succ (Fin.last cfg0.N).isLt))

/-- The run, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every argument array ends unchanged and every semaphore counter at zero. -/
theorem frame_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (dats_A m) (run_main m ρ)) ((θ_run defs _ _).mono (fun _ h => h.2) (run_main_quiescent m ρ))

end Cert.KernelIdeal.Body

end
-- ==== Proof.Math.lean ====
/- The function that kernel and reference compute, on extended reals, and the algebra that joins their two forms of it. -/
module

public import Idealize.ShloMosaic.Lib.Pointwise

@[expose] public section

set_option maxRecDepth 16384

noncomputable section

namespace Cert.Math

open Idealize.ShloMosaic

/-- The ten arguments, each by its coordinates. -/
structure Args where
  x : Fin 2 → Fin 2048 → Fin 768 → EReal
  gamma : Fin 768 → EReal
  wIn : Fin 1536 → Fin 768 → EReal
  bIn : Fin 1536 → EReal
  cw : Fin 1536 → Fin 4 → EReal
  a : Fin 1536 → Fin 16 → EReal
  b : Fin 1536 → Fin 16 → EReal
  c : Fin 1536 → Fin 16 → EReal
  wOut : Fin 768 → Fin 1536 → EReal
  bOut : Fin 768 → EReal

/-- The small number that the norm's divisor adds. -/
def eps : EReal := Ideal.ofBits .f32 0x358637BD#32

/-- The sum of the squares of one row. -/
def sumSq (A : Args) (b : Fin 2) (l : Fin 2048) : EReal := ∑ k, A.x b l k * A.x b l k

/-- One element of the normalized row. -/
def xn (A : Args) (b : Fin 2) (l : Fin 2048) (d : Fin 768) : EReal :=
  A.x b l d * Ideal.div (A.gamma d) (Ideal.sqrt (sumSq A b l * ((1 / 768 : ℝ) : EReal)) + eps)

/-- The first projection. -/
def xp (A : Args) (b : Fin 2) (l : Fin 2048) (e : Fin 1536) : EReal := ∑ k, xn A b l k * A.wIn e k + A.bIn e

/-- The projected rows with three rows of zeros before them. -/
def xpad (A : Args) (b : Fin 2) (j : ℕ) (e : Fin 1536) : EReal :=
  if h : 3 ≤ j ∧ j < 2051 then xp A b ⟨j - 3, by omega⟩ e else 0

/-- The convolution of four successive rows. -/
def xc (A : Args) (b : Fin 2) (l : ℕ) (e : Fin 1536) : EReal :=
  xpad A b l e * A.cw e 0 + xpad A b (l + 1) e * A.cw e 1 + xpad A b (l + 2) e * A.cw e 2 + xpad A b (l + 3) e * A.cw e 3

/-- The recurrence's state before row `t`. -/
def hst (A : Args) (b : Fin 2) (e : Fin 1536) (n : Fin 16) : ℕ → EReal
  | 0 => 0
  | t + 1 => Ideal.logistic (A.a e n) * hst A b e n t + Ideal.logistic (A.b e n) * xc A b t e

/-- The same state, scaled by its weight in the result. -/
def pst (A : Args) (b : Fin 2) (e : Fin 1536) (n : Fin 16) : ℕ → EReal
  | 0 => 0
  | t + 1 => Ideal.logistic (A.a e n) * pst A b e n t + Ideal.logistic (A.b e n) * Ideal.logistic (A.c e n) * xc A b t e

/-- The recurrence's result at a row. -/
def yv (A : Args) (b : Fin 2) (l : Fin 2048) (e : Fin 1536) : EReal := ∑ n, pst A b e n (l.val + 1)

/-- The result. -/
def out (A : Args) (b : Fin 2) (l : Fin 2048) (d : Fin 768) : EReal :=
  ∑ e, yv A b l e * A.wOut d e + A.bOut d + A.x b l d

theorem logistic_nonneg (x : EReal) : 0 ≤ Ideal.logistic x := by
  induction x with
  | bot => simp
  | top => simp
  | coe r => rw [Ideal.logistic_coe]; exact EReal.coe_nonneg.mpr (by positivity)

theorem logistic_ne_top (x : EReal) : Ideal.logistic x ≠ ⊤ := by
  induction x with
  | bot => simp
  | top => rw [Ideal.logistic_top]; exact EReal.coe_ne_top 1
  | coe r => rw [Ideal.logistic_coe]; exact EReal.coe_ne_top _

/-- The scaled state is the state times its weight. -/
theorem pst_eq (A : Args) (b : Fin 2) (e : Fin 1536) (n : Fin 16) :
    ∀ t, pst A b e n t = hst A b e n t * Ideal.logistic (A.c e n)
  | 0 => by simp [pst, hst]
  | t + 1 => by
    rw [pst, hst, pst_eq A b e n t, mul_comm (_ + _) (Ideal.logistic (A.c e n)),
      EReal.left_distrib_of_nonneg_of_ne_top (logistic_nonneg _) (logistic_ne_top _)]
    congr 1 <;> ac_rfl

theorem sq_nonneg' (x : EReal) : 0 ≤ x * x := by
  induction x with
  | bot => simp
  | top => simp
  | coe r => rw [← EReal.coe_mul]; exact EReal.coe_nonneg.mpr (mul_self_nonneg r)

theorem sumSq_nonneg (A : Args) (b : Fin 2) (l : Fin 2048) : 0 ≤ sumSq A b l :=
  Finset.sum_nonneg fun k _ => sq_nonneg' _

/-- The root of a mean: the root of the sum over the root of the count. -/
theorem sqrt_mean (s : EReal) (hs : 0 ≤ s) :
    Ideal.sqrt (s * ((1 / 768 : ℝ) : EReal)) = Ideal.div (Ideal.sqrt s) (Ideal.sqrt ((768 : ℝ) : EReal)) := by
  have h7 : Ideal.sqrt ((768 : ℝ) : EReal) = ((Real.sqrt 768 : ℝ) : EReal) := by
    rw [Ideal.sqrt_coe, if_neg (by norm_num)]
  have hp : 0 < Real.sqrt 768 := Real.sqrt_pos.mpr (by norm_num)
  rw [h7, Ideal.div_coe hp.ne']
  induction s with
  | bot => simp at hs
  | top =>
    rw [EReal.top_mul_coe_of_pos (by norm_num)]
    show (⊤ : EReal) = ⊤ * _
    rw [EReal.top_mul_coe_of_pos (by positivity)]
  | coe r =>
    have hr : 0 ≤ r := EReal.coe_nonneg.mp hs
    have hr' : 0 ≤ r * (1 / 768) := mul_nonneg hr (by norm_num)
    rw [← EReal.coe_mul, Ideal.sqrt_coe, Ideal.sqrt_coe, if_neg (not_lt.mpr hr), if_neg (not_lt.mpr hr'), ← EReal.coe_mul,
      Real.sqrt_mul hr, Real.sqrt_div (by norm_num), Real.sqrt_one]

theorem sqrt_nonneg' (s : EReal) (hs : 0 ≤ s) : 0 ≤ Ideal.sqrt s := by
  induction s with
  | bot => simp at hs
  | top => exact le_top
  | coe r =>
    rw [Ideal.sqrt_coe, if_neg (not_lt.mpr (EReal.coe_nonneg.mp hs))]
    exact EReal.coe_nonneg.mpr (Real.sqrt_nonneg r)

theorem eps_pos : 0 < eps := by
  unfold eps Ideal.ofBits Ideal.ieee
  norm_num [-EReal.coe_mul]
  rw [show 897988541 >>> 23 % 256 = 107 by decide, show BitVec.extractLsb' 31 1 897988541#32 = 0#1 by decide]
  norm_num [-EReal.coe_mul]
  exact zpow_pos (by norm_num) _

/-- A quotient times a factor: the factor enters the numerator. -/
theorem mul_div (g x d : EReal) (hd : 0 < d) : g * Ideal.div x d = x * Ideal.div g d := by
  unfold Ideal.div
  rw [if_neg hd.ne', if_neg hd.ne']
  ac_rfl

/-- The reference's form of a normalized element. -/
theorem xn_eq (A : Args) (b : Fin 2) (l : Fin 2048) (d : Fin 768) :
    A.gamma d * Ideal.div (A.x b l d) (Ideal.div (Ideal.sqrt (sumSq A b l)) (Ideal.sqrt ((768 : ℝ) : EReal)) + eps) = xn A b l d := by
  have h0 := sumSq_nonneg A b l
  rw [← sqrt_mean _ h0, mul_div, xn]
  have h1 : 0 ≤ Ideal.sqrt (sumSq A b l * ((1 / 768 : ℝ) : EReal)) :=
    sqrt_nonneg' _ (EReal.mul_nonneg h0 (EReal.coe_nonneg.mpr (by norm_num)))
  exact lt_of_lt_of_le eps_pos (le_add_of_nonneg_left h1)

end Cert.Math
-- ==== Proof.KernelIdeal.Pays.lean ====
/- The body's arithmetic at the extended reals, element by element. -/
module

public import proofs.«01_k».proof.Proof.Math
public import proofs.«01_k».proof.Proof.KernelIdeal.Body
public import Idealize.ShloMosaic.Lib.Pointwise

@[expose] public section

set_option maxRecDepth 16384

noncomputable section

namespace Cert.KernelIdeal.Body

open Cert.KernelIdeal Cert.KernelIdeal.Gen
open Idealize.ShloMosaic Idealize.ShloMosaic.TcCoe

/-- The kernel's constant is the reciprocal of the row length. -/
theorem inv_dim_eq : Named.named (F := Ideal) κ "inv_dim" (φ := .f32) 0x3AAAAAAB#32 = ((1 / 768 : ℝ) : EReal) :=
  IdealRules.named_const.ideal_named_scalar _ _ _ _ rfl

theorem pay135_at (v0 : Vec Ideal S1x512x768 .f32) (r : Fin 512) (d : Fin 768) : k0_pay135 (F := Ideal) v0 (ix2 r d) = v0 (ix3 0 r d) := by
  pointwise [k0_pay135]

theorem pay136_at (v0 : Vec Ideal S1x512x768 .f32) (v8 : Vec Ideal S1x768 .f32) (v17 : Vec Ideal S768x1536 .bf16) (v20 : Vec Ideal S1x1536 .f32)
    (r : Fin 512) (e : Fin 1536) : k0_pay136 (F := Ideal) v0 v8 v17 v20 (ix2 r e)
      = (∑ k : Fin 768, v0 (ix3 0 r k) * Ideal.div (v8 (ix2 0 k)) (Ideal.sqrt ((∑ i : Fin 768, (v0 (ix3 0 r i) * v0 (ix3 0 r i) : EReal)) * ((1 / 768 : ℝ) : EReal)) + Math.eps) * v17 (ix2 k e) : EReal) + v20 (ix2 0 e) := by
  pointwise [k0_pay136, k0_pay135]
  rw [inv_dim_eq]
  rfl

theorem pay141_at (xp : FVec Ideal S512x1536 .f32) (xs : Vec Ideal S520x1536 .f32) (x4 : Vec Ideal S4x1536 .f32) (r : Fin 512) (e : Fin 1536) :
    xcOf xp xs x4 (ix2 r e) = ((xs (ix2 ⟨5 + r, by omega⟩ e) * x4 (ix2 0 e) + xs (ix2 ⟨6 + r, by omega⟩ e) * x4 (ix2 1 e)
      + xs (ix2 ⟨7 + r, by omega⟩ e) * x4 (ix2 2 e) + xp (ix2 r e) * x4 (ix2 3 e)) : EReal) := by
  pointwise [xcOf, k0_pay141, rows512, wRow]
  simp only [Nat.mod_eq_of_lt (show 5 + r.val < 520 by omega), Nat.mod_eq_of_lt (show 6 + r.val < 520 by omega), Nat.mod_eq_of_lt (show 7 + r.val < 520 by omega)]

theorem pay142_at (v : Vec Ideal S16x1536 .f32) (n : Fin 16) (e : Fin 1536) : k0_pay142 (F := Ideal) v (ix2 n e) = Ideal.logistic (v (ix2 n e)) := by
  pointwise [k0_pay142]

theorem pay143_at (v w : Vec Ideal S16x1536 .f32) (n : Fin 16) (e : Fin 1536) :
    k0_pay143 (F := Ideal) v w (ix2 n e) = (Ideal.logistic (v (ix2 n e)) * Ideal.logistic (w (ix2 n e)) : EReal) := by
  pointwise [k0_pay143]

theorem pay3_at (v1 : FVec Ideal S512x768 .f32) (y : Vec Ideal S512x1536 .f32) (w : Vec Ideal S1536x768 .bf16) (bo : Vec Ideal S1x768 .f32) (r : Fin 512) (d : Fin 768) :
    k0_pay3 (F := Ideal) v1 y w bo (ix3 0 r d) = ((∑ e : Fin 1536, (y (ix2 r e) * w (ix2 e d) : EReal)) + bo (ix2 0 d) + v1 (ix2 r d) : EReal) := by
  pointwise [k0_pay3]

theorem pay1_at (v : FVec Ideal S32x512 .bf16) (w : Vec Ideal S512x1536 .bf16) (r : Fin 32) (e : Fin 1536) :
    k0_pay1 (F := Ideal) v w (ix2 r e) = (∑ k : Fin 512, (v (ix2 r k) * w (ix2 k e) : EReal)) := by
  pointwise [k0_pay1]

theorem sel_at (r : Fin 32) (k : Fin 512) : selW (F := Ideal) (ix2 r k) = (if k.val / 16 = r.val then (1 : EReal) else 0) := by
  pointwise [selW, k0_pay145, k0_pay144]
  have hz : ∀ k : Fin 512, (Scalar.select
          (IntOp.andi
            (IntOp.cmpi CmpIPredicate.ne
              (IntOp.subi (BitVec.setWidth 32 (IntOp.cmpi CmpIPredicate.sgt (BitVec.ofNat 32 k.val) 0#32))
                (BitVec.setWidth 32 (IntOp.cmpi CmpIPredicate.slt (BitVec.ofNat 32 k.val) 0#32)))
              (Scalar.subi (Scalar.extui (Scalar.cmpi CmpIPredicate.sgt 16#32 0#32))
                (Scalar.extui (Scalar.cmpi CmpIPredicate.slt 16#32 0#32))))
            (IntOp.cmpi CmpIPredicate.ne (IntOp.remsi ArithUnit.vector (BitVec.ofNat 32 k.val) 16#32) 0#32))
          (IntOp.subi (IntOp.divsi ArithUnit.vector (BitVec.ofNat 32 k.val) 16#32) 1#32)
          (IntOp.divsi ArithUnit.vector (BitVec.ofNat 32 k.val) 16#32)) = BitVec.ofNat 32 (k.val / 16) := by decide +kernel
  rw [hz k]
  have he : ∀ (q : Fin 32) (r : Fin 32), IntOp.cmpi CmpIPredicate.eq (BitVec.ofNat 32 r.val) (BitVec.ofNat 32 q.val) = if q.val = r.val then 1#1 else 0#1 := by decide +kernel
  rw [he ⟨k.val / 16, by omega⟩ r]
  show Scalar.select (if k.val / 16 = r.val then 1#1 else 0#1) (1 : EReal) 0 = _
  split_ifs <;> rfl

theorem stpR_at (sA : St Ideal) (sCB : FVec Ideal S16x1536 .f32) (x : FVec Ideal S1x1536 .f32) (p : St Ideal) (n : Fin 16) (e : Fin 1536) :
    stpR sA sCB x p (ix2 n e) = (sA (ix2 n e) * p (ix2 n e) + sCB (ix2 n e) * x (ix2 0 e) : EReal) := by
  pointwise [stpR]

/-- A group's product with the selector: at row `r` the sum of state `r`'s 16 rows. -/
theorem redY_at (w : ℕ → St Ideal) (r : Fin 32) (e : Fin 1536) :
    redY (F := Ideal) selW (stack w) (ix2 r e) = (∑ n : Fin 16, w r.val (ix2 n e) : EReal) := by
  refine (pay1_at _ _ r e).trans ?_
  rw [Fin.sum_univ_tiles 32 16 rfl]
  rw [Finset.sum_eq_single r]
  · refine Finset.sum_congr rfl fun n _ => ?_
    rw [sel_at, if_pos (by show (r.val * 16 + n.val) / 16 = r.val; omega), one_mul]
    show w ((r.val * 16 + n.val) / 16) (ix2 ⟨(r.val * 16 + n.val) % 16, _⟩ e) = _
    congr 2
    · omega
    · exact Fin.ext (by show (r.val * 16 + n.val) % 16 = n.val; omega)
  · intro q _ hq
    refine Finset.sum_eq_zero fun n _ => ?_
    rw [sel_at, if_neg (by show ¬(q.val * 16 + n.val) / 16 = r.val; intro h; exact hq (Fin.ext (by omega))), zero_mul]
  · intro h
    exact absurd (Finset.mem_univ r) h

/-- The result of the recurrence at one row of the block. -/
theorem ySpec_at (P : ℕ → St Ideal) (r : Fin 512) (e : Fin 1536) :
    ySpec (F := Ideal) selW P (ix2 r e) = (∑ n : Fin 16, P (r.val + 1) (ix2 n e) : EReal) := by
  show redY (F := Ideal) selW (stack fun n => P (32 * (r.val / 32) + n + 1)) (ix2 ⟨r.val % 32, _⟩ e) = _
  rw [redY_at]
  show (∑ n : Fin 16, P (32 * (r.val / 32) + r.val % 32 + 1) (ix2 n e) : EReal) = _
  rw [Nat.div_add_mod]

end Cert.KernelIdeal.Body
-- ==== Proof.KernelIdeal.Blocks.lean ====
/- What the blocks of each grid point hold of the arguments, at the extended reals. -/
module

public import proofs.«01_k».proof.Proof.KernelIdeal.Pays
public import proofs.«01_k».proof.Proof.KernelIdeal.Run
public import Idealize.ShloMosaic.Lib.Pipeline.ValueKit
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.SL.Sem
open Idealize.ShloMosaic.Pipeline (Dat)

/-- Where each window's block lies, by grid point. -/
theorem idx : ∀ t : Fin cfg0.N, win0_0.index t = ![t.val / 4, t.val % 4, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![t.val / 4, t.val % 4, 0] :=
  (by decide +kernel : ∀ t : Fin grid0.N, _)

variable (m : (ℓ : Loc nD τ sig) → Buf (Elt Ideal) ℓ)

/-- The ten argument arrays, by their coordinates. -/
def argsOf (c : Dev nD) : Math.Args where
  x b l d := (m ((c : Thread nD τ).loc main_arg0) : FVec Ideal S2x2048x768 .f32) (ix3 b l d)
  gamma d := (m ((c : Thread nD τ).loc main_arg1) : FVec Ideal S768 .f32) (ix1 d)
  wIn e d := (m ((c : Thread nD τ).loc main_arg2) : FVec Ideal S1536x768 .f32) (ix2 e d)
  bIn e := (m ((c : Thread nD τ).loc main_arg3) : FVec Ideal S1536 .f32) (ix1 e)
  cw e k := (m ((c : Thread nD τ).loc main_arg4) : FVec Ideal S1536x4 .f32) (ix2 e k)
  a e n := (m ((c : Thread nD τ).loc main_arg5) : FVec Ideal S1536x16 .f32) (ix2 e n)
  b e n := (m ((c : Thread nD τ).loc main_arg6) : FVec Ideal S1536x16 .f32) (ix2 e n)
  c e n := (m ((c : Thread nD τ).loc main_arg7) : FVec Ideal S1536x16 .f32) (ix2 e n)
  wOut d e := (m ((c : Thread nD τ).loc main_arg8) : FVec Ideal S768x1536 .f32) (ix2 d e)
  bOut d := (m ((c : Thread nD τ).loc main_arg9) : FVec Ideal S768 .f32) (ix1 d)

variable (c : Dev nD) (t : Fin cfg0.N)

theorem t_lt : t.val < 8 := t.isLt

/-- Point `t` works on sequence `t / 4`. -/
def bt : Fin 2 := ⟨t.val / 4, by have := t_lt t; omega⟩

/-- Row `r` of point `t`'s block, in the sequence. -/
def lt (r : Fin 512) : Fin 2048 := ⟨512 * (t.val % 4) + r.val, by omega⟩

theorem blk0 (r : Fin 512) (d : Fin 768) : (iblk m c 0 t : Vec Ideal S1x512x768 .f32) (ix3 0 r d) = (argsOf m c).x (bt t) (lt t r) d := by
  show _ = (m ((c : Thread nD τ).loc main_arg0) : FVec Ideal S2x2048x768 .f32) (ix3 (bt t) (lt t r) d)
  unfold bt lt
  blk_ext [iblk, V, idx t]

theorem blk1 (d : Fin 768) : (iblk m c 1 t : Vec Ideal S1x768 .f32) (ix2 0 d) = (argsOf m c).gamma d := by
  show _ = (m ((c : Thread nD τ).loc main_arg1) : FVec Ideal S768 .f32) (ix1 d)
  blk_point [iblk, idx t]

theorem blk2 (d : Fin 768) (e : Fin 1536) : (iblk m c 2 t : Vec Ideal S768x1536 .bf16) (ix2 d e) = (argsOf m c).wIn e d := by
  show _ = (m ((c : Thread nD τ).loc main_arg2) : FVec Ideal S1536x768 .f32) (ix2 e d)
  blk_point [iblk, idx t]

theorem blk3 (e : Fin 1536) : (iblk m c 3 t : Vec Ideal S1x1536 .f32) (ix2 0 e) = (argsOf m c).bIn e := by
  show _ = (m ((c : Thread nD τ).loc main_arg3) : FVec Ideal S1536 .f32) (ix1 e)
  blk_point [iblk, idx t]

theorem blk4 (k : Fin 4) (e : Fin 1536) : (iblk m c 4 t : Vec Ideal S4x1536 .f32) (ix2 k e) = (argsOf m c).cw e k := by
  show _ = (m ((c : Thread nD τ).loc main_arg4) : FVec Ideal S1536x4 .f32) (ix2 e k)
  blk_point [iblk, idx t]

theorem blk5 (n : Fin 16) (e : Fin 1536) : (iblk m c 5 t : Vec Ideal S16x1536 .f32) (ix2 n e) = (argsOf m c).a e n := by
  show _ = (m ((c : Thread nD τ).loc main_arg5) : FVec Ideal S1536x16 .f32) (ix2 e n)
  blk_point [iblk, idx t]

theorem blk6 (n : Fin 16) (e : Fin 1536) : (iblk m c 6 t : Vec Ideal S16x1536 .f32) (ix2 n e) = (argsOf m c).b e n := by
  show _ = (m ((c : Thread nD τ).loc main_arg6) : FVec Ideal S1536x16 .f32) (ix2 e n)
  blk_point [iblk, idx t]

theorem blk7 (n : Fin 16) (e : Fin 1536) : (iblk m c 7 t : Vec Ideal S16x1536 .f32) (ix2 n e) = (argsOf m c).c e n := by
  show _ = (m ((c : Thread nD τ).loc main_arg7) : FVec Ideal S1536x16 .f32) (ix2 e n)
  blk_point [iblk, idx t]

theorem blk8 (e : Fin 1536) (d : Fin 768) : (iblk m c 8 t : Vec Ideal S1536x768 .bf16) (ix2 e d) = (argsOf m c).wOut d e := by
  show _ = (m ((c : Thread nD τ).loc main_arg8) : FVec Ideal S768x1536 .f32) (ix2 d e)
  blk_point [iblk, idx t]

theorem blk9 (d : Fin 768) : (iblk m c 9 t : Vec Ideal S1x768 .f32) (ix2 0 d) = (argsOf m c).bOut d := by
  show _ = (m ((c : Thread nD τ).loc main_arg9) : FVec Ideal S768 .f32) (ix1 d)
  blk_point [iblk, idx t]

end Cert.KernelIdeal.Body
-- ==== Proof.KernelIdeal.Whole.lean ====
/- The result array of the kernel at the extended reals: every point's block is the function of the whole sequence there. -/
module

public import proofs.«01_k».proof.Proof.KernelIdeal.Blocks

@[expose] public section

set_option maxRecDepth 16384

noncomputable section

namespace Cert.KernelIdeal.Body

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The block's projected rows are those of the sequence. -/
theorem xp_at (t : Fin cfg0.N) (r : Fin 512) (e : Fin 1536) :
    k0_pay136 (F := Ideal) (iblk m c 0 t) (iblk m c 1 t) (iblk m c 2 t) (iblk m c 3 t) (ix2 r e) = Math.xp (argsOf m c) (bt t) (lt t r) e := by
  refine (pay136_at _ _ _ _ r e).trans ?_
  refine Ideal.add_congr ?_ (blk3 m c t e)
  refine Finset.sum_congr rfl fun k _ => Ideal.mul_congr ?_ (blk2 m c t k e)
  refine Ideal.mul_congr (blk0 m c t r k) (congrArg₂ Ideal.div (blk1 m c t k) ?_)
  refine congrArg (fun s => Ideal.sqrt (s * ((1 / 768 : ℝ) : EReal)) + Math.eps) ?_
  exact Finset.sum_congr rfl fun i _ => Ideal.mul_congr (blk0 m c t r i) (blk0 m c t r i)

/-- The eight rows `tail` are the sequence's last rows before point `t`, as far as they are read. -/
def TailOk (t : Fin cfg0.N) (tail : Vec Ideal S8x1536 .f32) : Prop :=
  ∀ (q : Fin 8) (e : Fin 1536), 5 ≤ q.val → tail (ix2 q e) = Math.xpad (argsOf m c) (bt t) (512 * (t.val % 4) + q.val - 5) e

/-- `h` is the sequence's state before point `t`. -/
def StOk (t : Fin cfg0.N) (h : St Ideal) : Prop :=
  ∀ (n : Fin 16) (e : Fin 1536), h (ix2 n e) = Math.pst (argsOf m c) (bt t) e n (512 * (t.val % 4))

/-- The kept rows are the sequence's padded rows. -/
theorem kept_at (t : Fin cfg0.N) (tail : Vec Ideal S8x1536 .f32) (h : TailOk m c t tail) (j : Fin 520) (e : Fin 1536) (hj : 5 ≤ j.val) :
    keptAt m c tail t (ix2 j e) = Math.xpad (argsOf m c) (bt t) (512 * (t.val % 4) + j.val - 5) e := by
  unfold keptAt keptRows xpsOf
  by_cases h8 : j.val < 8
  · rw [dif_pos (show ((ix2 j e : S520x1536.Idx) 0).val < 8 from h8)]
    exact h ⟨j.val, h8⟩ e hj
  · rw [dif_neg (show ¬((ix2 j e : S520x1536.Idx) 0).val < 8 from h8)]
    have hpay : ∀ (r : Fin 512), k0_pay140 (F := Ideal) (iblk m c 0 t) (iblk m c 1 t) (iblk m c 2 t) (iblk m c 3 t) (ix2 r e) = Math.xp (argsOf m c) (bt t) (lt t r) e := by
      intro r
      refine Eq.trans ?_ (xp_at m c t r e)
      pointwise [k0_pay140]
    refine (hpay ⟨j.val - 8, by omega⟩).trans ?_
    have ht := t_lt t
    unfold Math.xpad
    rw [dif_pos (by omega)]
    congr 1
    exact Fin.ext (by show 512 * (t.val % 4) + (j.val - 8) = 512 * (t.val % 4) + j.val - 5 - 3; omega)

/-- The convolved rows of the block are those of the sequence. -/
theorem xc_at (t : Fin cfg0.N) (tail : Vec Ideal S8x1536 .f32) (h : TailOk m c t tail) (r : Fin 512) (e : Fin 1536) :
    xcOf (k0_pay136 (F := Ideal) (iblk m c 0 t) (iblk m c 1 t) (iblk m c 2 t) (iblk m c 3 t)) (keptAt m c tail t) (iblk m c 4 t) (ix2 r e)
      = Math.xc (argsOf m c) (bt t) (512 * (t.val % 4) + r.val) e := by
  refine (pay141_at _ _ _ r e).trans ?_
  have hk : ∀ (k : ℕ) (hk : k < 3), keptAt m c tail t (ix2 ⟨5 + k + r.val, by omega⟩ e) = Math.xpad (argsOf m c) (bt t) (512 * (t.val % 4) + r.val + k) e := by
    intro k hk
    refine (kept_at m c t tail h _ e (by show 5 ≤ 5 + k + r.val; omega)).trans ?_
    congr 1
    show 512 * (t.val % 4) + (5 + k + r.val) - 5 = _
    omega
  refine Ideal.add_congr (Ideal.add_congr (Ideal.add_congr ?_ ?_) ?_) ?_
  · exact Ideal.mul_congr (hk 0 (by omega)) (blk4 m c t 0 e)
  · exact Ideal.mul_congr (hk 1 (by omega)) (blk4 m c t 1 e)
  · exact Ideal.mul_congr (hk 2 (by omega)) (blk4 m c t 2 e)
  · refine Ideal.mul_congr ((xp_at m c t r e).trans ?_) (blk4 m c t 3 e)
    have ht := t_lt t
    unfold Math.xpad
    rw [dif_pos (by omega)]
    congr 1

/-- The states of the block's scan are those of the sequence. -/
theorem states_at (t : Fin cfg0.N) (p : Vec Ideal S8x1536 .f32 × St Ideal) (h : TailOk m c t p.1) (hs : StOk m c t p.2) (n : Fin 16) (e : Fin 1536) :
    ∀ k, k ≤ 512 → statesAt m c p t k (ix2 n e) = Math.pst (argsOf m c) (bt t) e n (512 * (t.val % 4) + k)
  | 0, _ => hs n e
  | k + 1, hk => by
    show stpR _ _ _ (statesAt m c p t k) (ix2 n e) = _
    refine (stpR_at _ _ _ _ n e).trans ?_
    rw [← Nat.add_assoc, Math.pst]
    refine Ideal.add_congr (Ideal.mul_congr ?_ (states_at t p h hs n e k (by omega))) (Ideal.mul_congr ?_ ?_)
    · exact (pay142_at _ n e).trans (congrArg Ideal.logistic (blk5 m c t n e))
    · exact (pay143_at _ _ n e).trans (Ideal.mul_congr (congrArg Ideal.logistic (blk6 m c t n e)) (congrArg Ideal.logistic (blk7 m c t n e)))
    · refine (xc_at m c t p.1 h ⟨k % 512, Nat.mod_lt _ (by decide)⟩ e).trans ?_
      congr 1
      show _ + k % 512 = _ + k
      rw [Nat.mod_eq_of_lt (show k < 512 by omega)]

/-- Each point starts from the sequence's rows and state before it. -/
theorem start_at : ∀ (n : ℕ) (hn : n < cfg0.N), TailOk m c ⟨n, hn⟩ (startOf m c n hn).1 ∧ StOk m c ⟨n, hn⟩ (startOf m c n hn).2 := by
  have zero : ∀ (n : ℕ) (hn : n < cfg0.N), n % 4 = 0 → TailOk m c ⟨n, hn⟩ (startOf m c n hn).1 ∧ StOk m c ⟨n, hn⟩ (startOf m c n hn).2 := by
    intro n hn h
    rw [startOf_first m c n hn h]
    constructor
    · intro q e hq
      show k0_pay137 (F := Ideal) (ix2 q e) = Math.xpad _ _ (512 * (n % 4) + q.val - 5) e
      unfold Math.xpad
      rw [dif_neg (by omega)]
      pointwise [k0_pay137]
    · intro k e
      show k0_pay138 (F := Ideal) (ix2 k e) = Math.pst _ _ e k (512 * (n % 4))
      rw [h, Nat.mul_zero, Math.pst]
      pointwise [k0_pay138]
  intro n
  induction n with
  | zero => exact fun hn => zero 0 hn rfl
  | succ n ih =>
    intro hn
    by_cases h : (n + 1) % 4 = 0
    · exact zero _ hn h
    · rw [startOf_next m c n hn h]
      obtain ⟨i1, i2⟩ := ih (Nat.lt_of_succ_lt hn)
      have hb : bt ⟨n + 1, hn⟩ = bt ⟨n, Nat.lt_of_succ_lt hn⟩ := Fin.ext (by show (n + 1) / 4 = n / 4; omega)
      have hl : 512 * ((n + 1) % 4) = 512 * (n % 4) + 512 := by omega
      constructor
      · intro q e hq
        have hp : ∀ v : Vec Ideal S8x1536 .f32, k0_pay139 (F := Ideal) v (ix2 q e) = v (ix2 q e) := by
          intro v
          pointwise [k0_pay139]
        show k0_pay139 (F := Ideal) (rows8 (keptAt m c (startOf m c n (Nat.lt_of_succ_lt hn)).1 ⟨n, Nat.lt_of_succ_lt hn⟩)) (ix2 q e) = _
        refine (hp _).trans ?_
        show keptAt m c _ ⟨n, _⟩ (ix2 ⟨(512 + q.val) % 520, _⟩ e) = _
        refine (kept_at m c _ _ i1 _ e (by show 5 ≤ (512 + q.val) % 520; omega)).trans ?_
        rw [hb]
        congr 1
        show 512 * (n % 4) + (512 + q.val) % 520 - 5 = 512 * ((n + 1) % 4) + q.val - 5
        omega
      · intro k e
        refine (states_at m c _ _ i1 i2 k e 512 (le_refl _)).trans ?_
        rw [hb]
        congr 1
        exact hl.symm

/-- What a point stores is the function's value at its rows. -/
theorem stored_at (t : Fin cfg0.N) (r : Fin 512) (d : Fin 768) :
    storedBy m c t (ix3 0 r d) = Math.out (argsOf m c) (bt t) (lt t r) d := by
  obtain ⟨i1, i2⟩ := start_at m c t.val t.isLt
  unfold storedBy blockOut
  refine (pay3_at _ _ _ _ r d).trans ?_
  unfold Math.out
  refine Ideal.add_congr (Ideal.add_congr ?_ (blk9 m c t d)) ((pay135_at _ r d).trans (blk0 m c t r d))
  refine Finset.sum_congr rfl fun e _ => Ideal.mul_congr ?_ (blk8 m c t e d)
  refine (ySpec_at _ r e).trans ?_
  refine Finset.sum_congr rfl fun n _ => ?_
  refine (states_at m c t _ i1 i2 n e (r.val + 1) (by omega)).trans ?_
  congr 1

/-- The function as an array. -/
def outArr (A : Math.Args) : FVec Ideal S2x2048x768 .f32 := fun i => Math.out A (i 0) (i 1) (i 2)

/-- The result array after the run. -/
theorem final : (dats m 0 c).arrAt 10 (cfgs 0).N = outArr (argsOf m c) := by
  refine (dats m 0 c).arrAt_eq_of_covers 10 _ (by decide +kernel) fun t _ y => ?_
  blk_simp
  rw [after_10]
  have hy : (y : S1x512x768.Idx) = ix3 (0 : Fin 1) (y 1) (y 2) := by
    refine (eq_ix3 (n0 := 1) (n1 := 512) (n2 := 768) y).trans ?_
    congr 1
    exact Subsingleton.elim _ _
  refine (congrArg (storedBy m c t) hy).trans ((stored_at m c t (y 1) (y 2)).trans ?_)
  have h0 : ((win0_10.blk t).view.emb y 0 : Fin 2) = bt t := by
    refine Fin.ext ?_
    show (((win0_10.blk t).view.emb y) 0 : ℕ) = t.val / 4
    blk_simp [idx t]
  have h1 : ((win0_10.blk t).view.emb y 1 : Fin 2048) = lt t (y 1) := by
    refine Fin.ext ?_
    show (((win0_10.blk t).view.emb y) 1 : ℕ) = 512 * (t.val % 4) + (y 1).val
    blk_simp [idx t]
    simp
    try omega
  have h2 : ((win0_10.blk t).view.emb y 2 : Fin 768) = y 2 := by
    refine Fin.ext ?_
    show (((win0_10.blk t).view.emb y) 2 : ℕ) = (y 2).val
    blk_simp [idx t]
  show _ = Math.out _ ((win0_10.blk t).view.emb y 0 : Fin 2) ((win0_10.blk t).view.emb y 1 : Fin 2048) ((win0_10.blk t).view.emb y 2 : Fin 768)
  rw [h0, h1, h2]

end Cert.KernelIdeal.Body
-- ==== Proof.ReferenceIdeal.Entry.lean ====
/- What the reference has computed when its loop starts, element by element, at the extended reals. -/
module

public import proofs.«01_k».proof.Proof.Math
public import proofs.«01_k».proof.Proof.Gen.ReferenceIdeal.Run
public import Idealize.ShloMosaic.Lib.Pointwise

@[expose] public section

set_option maxRecDepth 16384

noncomputable section

namespace Cert.ReferenceIdeal.Value

open Cert.ReferenceIdeal Cert.ReferenceIdeal.Gen
open Idealize.ShloMosaic Idealize.ShloMosaic.TcCoe Idealize.SL.Sem
open Idealize.ShloMosaic.StableHlo

/-- The value 768 of the row length's literal. -/
theorem ofBits_768 : Ideal.ofBits .f32 0x44400000#32 = ((768 : ℝ) : EReal) := by
  simp [Ideal.ofBits, Ideal.ieee, -EReal.coe_mul]; norm_num

variable (V : Valuation τ sig (Elt Ideal))

theorem v0_at (x : FVec Ideal S2x2048x768 .f32) (hx : V (Proc.devRef .tc main_arg0) = x) (b : Fin 2) (l : Fin 2048) :
    (after hostOps0 V (Proc.devRef .tc main_v0) : FVec Ideal S2x2048x1 .f32) (ix3 b l 0)
      = Ideal.sqrt (∑ k : Fin 768, (x (ix3 b l k) * x (ix3 b l k) : EReal)) := by
  after_reads_simp
  simp only [hx, TRef.toBuf, TRef.ofBuf, cast_cast, cast_eq]
  pointwise [id]

theorem v15_at (x : FVec Ideal S2x2048x768 .f32) (hx : V (Proc.devRef .tc main_arg0) = x) (g : FVec Ideal S768 .f32) (hg : V (Proc.devRef .tc main_arg1) = g)
    (w : FVec Ideal S1536x768 .f32) (hw : V (Proc.devRef .tc main_arg2) = w) (bi : FVec Ideal S1536 .f32) (hb : V (Proc.devRef .tc main_arg3) = bi)
    (s : FVec Ideal S2x2048x1 .f32) (hs : V (Proc.devRef .tc main_v0) = s) (b : Fin 2) (l : Fin 2048) (e : Fin 1536) :
    (after hostOps0_1 V (Proc.devRef .tc main_v15) : FVec Ideal S2x2048x1536 .f32) (ix3 b l e)
      = ((∑ k : Fin 768, (g (ix1 k) * Ideal.div (x (ix3 b l k)) (Ideal.div (s (ix3 b l 0)) (Ideal.sqrt ((768 : ℝ) : EReal)) + Math.eps) * w (ix2 e k) : EReal)) + bi (ix1 e) : EReal) := by
  after_reads_simp
  simp only [hx, hg, hw, hb, hs]
  pointwise [id]
  rw [ofBits_768]
  rfl

theorem v16_at (v : FVec Ideal S2x2048x1536 .f32) (hv : V (Proc.devRef .tc main_v15) = v) (hc : V (Proc.devRef .tc main_c) = (fun _ => 0#32 : IVec S_ 32))
    (b : Fin 2) (j : Fin 2051) (e : Fin 1536) :
    (after hostOps0_2 V (Proc.devRef .tc main_v16) : FVec Ideal S2x2051x1536 .f32) (ix3 b j e)
      = if h : 3 ≤ j.val ∧ j.val < 2051 then v (ix3 b ⟨j.val - 3, by omega⟩ e) else (0 : EReal) := by
  after_reads_simp
  simp only [hv, hc, TRef.toBuf, TRef.ofBuf, cast_cast, cast_eq]
  pointwise [id]
  by_cases h : 3 ≤ j.val
  · rw [dif_pos ⟨h, by omega⟩, dif_pos h]
  · rw [dif_neg fun h' => h h'.1, dif_neg h]
    show (((0#32 : BitVec 32).toInt : ℝ) : EReal) = 0
    simp

theorem c_at : (after hostOps0_1 V (Proc.devRef .tc main_c) : IVec S_ 32) = fun _ => 0#32 := by
  after_reads_simp
  rfl

/-- The rows that the loop goes through: the convolution. -/
theorem rows_at (v : FVec Ideal S2x2051x1536 .f32) (hv : V (Proc.devRef .tc main_v16) = v) (w : FVec Ideal S1536x4 .f32) (hw : V (Proc.devRef .tc main_arg4) = w)
    (l : Fin 2048) (b : Fin 2) (e : Fin 1536) :
    (after hostOps0_3 V (Proc.devRef .tc main_v67_0) : FVec Ideal S2048x2x1536 .f32) (ix3 l b e)
      = (v (ix3 b ⟨l.val, by omega⟩ e) * w (ix2 e 0) + v (ix3 b ⟨1 + l.val, by omega⟩ e) * w (ix2 e 1)
        + v (ix3 b ⟨2 + l.val, by omega⟩ e) * w (ix2 e 2) + v (ix3 b ⟨3 + l.val, by omega⟩ e) * w (ix2 e 3) : EReal) := by
  after_reads_simp
  simp only [hv, hw]
  pointwise [id]

theorem sigA_at (e : Fin 1536) (n : Fin 16) :
    (after hostOps0_3 V (Proc.devRef .tc main_v67_1) : FVec Ideal S1536x16 .f32) (ix2 e n) = Ideal.logistic ((V (Proc.devRef .tc main_arg5) : FVec Ideal S1536x16 .f32) (ix2 e n)) := by
  after_reads_simp
  pointwise [id]
  rfl

theorem sigB_at (e : Fin 1536) (n : Fin 16) :
    (after hostOps0_3 V (Proc.devRef .tc main_v67_2) : FVec Ideal S1536x16 .f32) (ix2 e n) = Ideal.logistic ((V (Proc.devRef .tc main_arg6) : FVec Ideal S1536x16 .f32) (ix2 e n)) := by
  after_reads_simp
  pointwise [id]
  rfl

theorem sigC_at (e : Fin 1536) (n : Fin 16) :
    (after hostOps0_3 V (Proc.devRef .tc main_v67_3) : FVec Ideal S1536x16 .f32) (ix2 e n) = Ideal.logistic ((V (Proc.devRef .tc main_arg7) : FVec Ideal S1536x16 .f32) (ix2 e n)) := by
  after_reads_simp
  pointwise [id]
  rfl

theorem h0_at (b : Fin 2) (e : Fin 1536) (n : Fin 16) :
    (after hostOps0_3 V (Proc.devRef .tc main_v67_5) : FVec Ideal S2x1536x16 .f32) (ix3 b e n) = (0 : EReal) := by
  after_reads_simp
  pointwise [id]

variable (m : (ℓ : Loc nD τ sig) → Buf (Elt Ideal) ℓ)

/-- The ten argument arrays, by their coordinates. -/
def argsOf (c : Dev nD) : Math.Args where
  x b l d := (m ((c.tc : Thread nD τ).loc main_arg0) : FVec Ideal S2x2048x768 .f32) (ix3 b l d)
  gamma d := (m ((c.tc : Thread nD τ).loc main_arg1) : FVec Ideal S768 .f32) (ix1 d)
  wIn e d := (m ((c.tc : Thread nD τ).loc main_arg2) : FVec Ideal S1536x768 .f32) (ix2 e d)
  bIn e := (m ((c.tc : Thread nD τ).loc main_arg3) : FVec Ideal S1536 .f32) (ix1 e)
  cw e k := (m ((c.tc : Thread nD τ).loc main_arg4) : FVec Ideal S1536x4 .f32) (ix2 e k)
  a e n := (m ((c.tc : Thread nD τ).loc main_arg5) : FVec Ideal S1536x16 .f32) (ix2 e n)
  b e n := (m ((c.tc : Thread nD τ).loc main_arg6) : FVec Ideal S1536x16 .f32) (ix2 e n)
  c e n := (m ((c.tc : Thread nD τ).loc main_arg7) : FVec Ideal S1536x16 .f32) (ix2 e n)
  wOut d e := (m ((c.tc : Thread nD τ).loc main_arg8) : FVec Ideal S768x1536 .f32) (ix2 d e)
  bOut d := (m ((c.tc : Thread nD τ).loc main_arg9) : FVec Ideal S768 .f32) (ix1 d)

variable (c : Dev nD)

/-- The buffers after each stretch before the loop. -/
def w0 : Valuation τ sig (Elt Ideal) := launchContents m c
def w1 : Valuation τ sig (Elt Ideal) := after hostOps0 (w0 m c)
def w2 : Valuation τ sig (Elt Ideal) := after hostOps0_1 (w1 m c)
def w3 : Valuation τ sig (Elt Ideal) := after hostOps0_2 (w2 m c)
def w4 : Valuation τ sig (Elt Ideal) := after hostOps0_3 (w3 m c)

theorem entry_eq : entryContents preI m c = w4 m c := rfl

theorem xp_at (b : Fin 2) (l : Fin 2048) (e : Fin 1536) :
    (w2 m c (Proc.devRef .tc main_v15) : FVec Ideal S2x2048x1536 .f32) (ix3 b l e) = Math.xp (argsOf m c) b l e := by
  refine (v15_at (w1 m c) _ (keep_main_arg0_hostOps0 _) _ (keep_main_arg1_hostOps0 _) _ (keep_main_arg2_hostOps0 _) _ (keep_main_arg3_hostOps0 _) _ rfl b l e).trans ?_
  unfold Math.xp
  refine Ideal.add_congr (Finset.sum_congr rfl fun k _ => Ideal.mul_congr ?_ rfl) rfl
  refine Eq.trans ?_ (Math.xn_eq (argsOf m c) b l k)
  refine Ideal.mul_congr rfl (congrArg (fun s => Ideal.div ((argsOf m c).x b l k) (Ideal.div s (Ideal.sqrt ((768 : ℝ) : EReal)) + Math.eps)) ?_)
  exact v0_at (w0 m c) _ rfl b l

theorem xpad_at (b : Fin 2) (j : Fin 2051) (e : Fin 1536) :
    (w3 m c (Proc.devRef .tc main_v16) : FVec Ideal S2x2051x1536 .f32) (ix3 b j e) = Math.xpad (argsOf m c) b j.val e := by
  refine (v16_at (w2 m c) _ rfl (c_at _) b j e).trans ?_
  unfold Math.xpad
  by_cases h : 3 ≤ j.val ∧ j.val < 2051
  · rw [dif_pos h, dif_pos h]
    exact xp_at m c b _ e
  · rw [dif_neg h, dif_neg h]

/-- The rows that the loop goes through. -/
theorem xc_at (l : Fin 2048) (b : Fin 2) (e : Fin 1536) :
    (w4 m c (Proc.devRef .tc main_v67_0) : FVec Ideal S2048x2x1536 .f32) (ix3 l b e) = Math.xc (argsOf m c) b l.val e := by
  refine (rows_at (w3 m c) _ rfl _ ((keep_main_arg4_hostOps0_2 _).trans ((keep_main_arg4_hostOps0_1 _).trans (keep_main_arg4_hostOps0 _))) l b e).trans ?_
  unfold Math.xc
  have hk : ∀ (k : ℕ) (hk : k < 4), (w3 m c (Proc.devRef .tc main_v16) : FVec Ideal S2x2051x1536 .f32) (ix3 b ⟨k + l.val, by omega⟩ e) = Math.xpad (argsOf m c) b (l.val + k) e := by
    intro k hk
    exact (xpad_at m c b _ e).trans (congrArg (fun z => Math.xpad (argsOf m c) b z e) (Nat.add_comm k l.val))
  refine Ideal.add_congr (Ideal.add_congr (Ideal.add_congr ?_ ?_) ?_) ?_
  · exact Ideal.mul_congr (xpad_at m c b _ e) rfl
  · exact Ideal.mul_congr (hk 1 (by omega)) rfl
  · exact Ideal.mul_congr (hk 2 (by omega)) rfl
  · exact Ideal.mul_congr (hk 3 (by omega)) rfl

theorem arg5_at : w3 m c (Proc.devRef .tc main_arg5) = m ((c.tc : Thread nD τ).loc main_arg5) :=
  (keep_main_arg5_hostOps0_2 _).trans ((keep_main_arg5_hostOps0_1 _).trans (keep_main_arg5_hostOps0 _))

theorem arg6_at : w3 m c (Proc.devRef .tc main_arg6) = m ((c.tc : Thread nD τ).loc main_arg6) :=
  (keep_main_arg6_hostOps0_2 _).trans ((keep_main_arg6_hostOps0_1 _).trans (keep_main_arg6_hostOps0 _))

theorem arg7_at : w3 m c (Proc.devRef .tc main_arg7) = m ((c.tc : Thread nD τ).loc main_arg7) :=
  (keep_main_arg7_hostOps0_2 _).trans ((keep_main_arg7_hostOps0_1 _).trans (keep_main_arg7_hostOps0 _))

end Cert.ReferenceIdeal.Value
-- ==== Proof.ReferenceIdeal.Loop.lean ====
/- The reference's loop and its result, element by element, at the extended reals. -/
module

public import proofs.«01_k».proof.Proof.ReferenceIdeal.Entry

@[expose] public section

set_option maxRecDepth 16384

noncomputable section

namespace Cert.ReferenceIdeal.Value

open Cert.ReferenceIdeal Cert.ReferenceIdeal.Gen
open Idealize.ShloMosaic Idealize.ShloMosaic.TcCoe Idealize.SL.Sem
open Idealize.ShloMosaic.StableHlo

theorem ix3_congr {n0 n1 n2 : ℕ} {a a' : Fin n0} {b b' : Fin n1} {c c' : Fin n2} (h0 : a = a') (h1 : b = b') (h2 : c = c') : ix3 a b c = ix3 a' b' c' := by
  subst h0 h1 h2
  rfl

theorem toInt_small (k : Fin 2048) : (BitVec.ofNat 32 k.val).toInt = (k.val : ℤ) := by
  have hk := k.isLt
  rw [BitVec.toInt_eq_toNat_cond, BitVec.toNat_ofNat, Nat.mod_eq_of_lt (by omega), if_pos (by omega)]

/-- Where a slice of one row starts. -/
theorem clamp_at (st : Fin 3 → ℤ) (k : Fin 2048) (h0 : st 0 = (k.val : ℤ)) (h1 : st 1 = 0) (h2 : st 2 = 0) :
    Host.clampedStart S2048x2x1536 S1x2x1536 rfl st = ![k.val, 0, 0] := by
  funext a
  have hk := k.isLt
  fin_cases a
  · show (min (max (st 0) 0) ((2048 - 1 : ℕ) : ℤ)).toNat = k.val
    rw [h0]
    omega
  · show (min (max (st 1) 0) ((2 - 2 : ℕ) : ℤ)).toNat = 0
    rw [h1]
    rfl
  · show (min (max (st 2) 0) ((1536 - 1536 : ℕ) : ℤ)).toNat = 0
    rw [h2]
    rfl

theorem slice_at (X : FVec Ideal S2048x2x1536 .f32) (st : Fin 3 → ℤ) (k : Fin 2048) (h0 : st 0 = (k.val : ℤ)) (h1 : st 1 = 0) (h2 : st 2 = 0)
    (b : Fin 2) (e : Fin 1536) : Host.dynamicSlice S1x2x1536 X st sliceFits_S2048x2x1536_S1x2x1536 (ix3 0 b e) = X (ix3 k b e) := by
  pointwise []
  have hc := clamp_at st k h0 h1 h2
  refine congrArg X (ix3_congr (Fin.ext ?_) (Fin.ext ?_) (Fin.ext ?_))
  · exact congrFun hc 0
  · show Host.clampedStart S2048x2x1536 S1x2x1536 rfl st 1 + b.val = b.val
    rw [hc]
    exact Nat.zero_add _
  · show Host.clampedStart S2048x2x1536 S1x2x1536 rfl st 2 + e.val = e.val
    rw [hc]
    exact Nat.zero_add _

theorem update_at (R : FVec Ideal S2048x2x1536 .f32) (u : FVec Ideal S1x2x1536 .f32) (st : Fin 3 → ℤ) (k : Fin 2048) (h0 : st 0 = (k.val : ℤ)) (h1 : st 1 = 0) (h2 : st 2 = 0)
    (l : Fin 2048) (b : Fin 2) (e : Fin 1536) :
    Host.dynamicUpdateSlice R u st updateFits_S2048x2x1536_S1x2x1536 (ix3 l b e) = if l.val = k.val then u (ix3 0 b e) else R (ix3 l b e) := by
  pointwise []
  simp only [clamp_at st k h0 h1 h2]
  have hl := l.isLt
  have hb := b.isLt
  have he := e.isLt
  by_cases h : l.val = k.val
  · rw [if_pos h, dif_pos]
    · refine congrArg u (ix3_congr (Fin.ext ?_) (Fin.ext ?_) (Fin.ext ?_))
      · show l.val - k.val = 0
        omega
      · rfl
      · rfl
    · show (k.val ≤ l.val ∧ l.val < k.val + 1) ∧ (0 ≤ b.val ∧ b.val < 0 + 2) ∧ 0 ≤ e.val ∧ e.val < 0 + 1536
      omega
  · rw [if_neg h, dif_neg]
    rintro ⟨hk, -⟩
    have hk' : k.val ≤ l.val ∧ l.val < k.val + 1 := hk
    omega

/-- One trip's state. -/
theorem state_at (V : Valuation τ sig (Elt Ideal)) (X : FVec Ideal S2048x2x1536 .f32) (hX : V (Proc.devRef .tc main_v67_0) = X)
    (a : FVec Ideal S1536x16 .f32) (ha : V (Proc.devRef .tc main_v67_1) = a) (b' : FVec Ideal S1536x16 .f32) (hb' : V (Proc.devRef .tc main_v67_2) = b')
    (h : FVec Ideal S2x1536x16 .f32) (hh : V (Proc.devRef .tc main_v67_5) = h) (k : Fin 2048)
    (hk : V (Proc.devRef .tc main_v67_4) = (fun _ => BitVec.ofNat 32 k.val : IVec S_ 32))
    (b : Fin 2) (e : Fin 1536) (n : Fin 16) :
    (res_main_while0b_v84 V : FVec Ideal S2x1536x16 .f32) (ix3 b e n) = (a (ix2 e n) * h (ix3 b e n) + b' (ix2 e n) * X (ix3 k b e) : EReal) := by
  have hs := slice_at X (fun q => (((![V (Proc.devRef .tc main_v67_4), constantI S_ 32 0#32, constantI S_ 32 0#32] : Fin 3 → (⟨S_, .i32⟩ : BufTy).Contents (Elt Ideal))) q (Shape.Idx.first h_S_)).toInt) k
    (by show (V (Proc.devRef .tc main_v67_4) (Shape.Idx.first h_S_) : BitVec 32).toInt = _; rw [hk]; exact toInt_small k) rfl rfl b e
  rw [← hX] at hs ⊢
  refine Eq.trans ?_ (congrArg (fun z => (a (ix2 e n) * h (ix3 b e n) + b' (ix2 e n) * z : EReal)) hs)
  unfold res_main_while0b_v84
  generalize Host.dynamicSlice S1x2x1536 (V (Proc.devRef .tc main_v67_0)) _ sliceFits_S2048x2x1536_S1x2x1536 = D
  simp only [ha, hb', hh]
  pointwise [id]

/-- One trip's row of results, and the other rows. -/
theorem row_at (V : Valuation τ sig (Elt Ideal)) (R : FVec Ideal S2048x2x1536 .f32) (hR : V (Proc.devRef .tc main_v67_6) = R)
    (w : FVec Ideal S1536x16 .f32) (hw : V (Proc.devRef .tc main_v67_3) = w) (h : FVec Ideal S2x1536x16 .f32) (hh : res_main_while0b_v84 V = h) (k : Fin 2048)
    (hk : V (Proc.devRef .tc main_v67_4) = (fun _ => BitVec.ofNat 32 k.val : IVec S_ 32))
    (l : Fin 2048) (b : Fin 2) (e : Fin 1536) :
    (step_main_v67_6 V : FVec Ideal S2048x2x1536 .f32) (ix3 l b e) = if l.val = k.val then (∑ n : Fin 16, (w (ix2 e n) * h (ix3 b e n) : EReal)) else R (ix3 l b e) := by
  unfold step_main_v67_6
  simp only [hR, hw, hh]
  refine (update_at R _ _ k ?_ rfl rfl l b e).trans ?_
  · show (V (Proc.devRef .tc main_v67_4) (Shape.Idx.first h_S_) : BitVec 32).toInt = _
    rw [hk]
    exact toInt_small k
  · by_cases hl : l.val = k.val
    · rw [if_pos hl, if_pos hl]
      pointwise []
    · rw [if_neg hl, if_neg hl]

theorem out_at (V : Valuation τ sig (Elt Ideal)) (R : FVec Ideal S2048x2x1536 .f32) (hR : V (Proc.devRef .tc main_v67_6) = R)
    (w : FVec Ideal S768x1536 .f32) (hw : V (Proc.devRef .tc main_arg8) = w) (bo : FVec Ideal S768 .f32) (hbo : V (Proc.devRef .tc main_arg9) = bo)
    (x : FVec Ideal S2x2048x768 .f32) (hx : V (Proc.devRef .tc main_arg0) = x) (b : Fin 2) (l : Fin 2048) (d : Fin 768) :
    (out_main_v74 V : FVec Ideal S2x2048x768 .f32) (ix3 b l d) = ((∑ e : Fin 1536, (R (ix3 l b e) * w (ix2 d e) : EReal)) + bo (ix1 d) + x (ix3 b l d) : EReal) := by
  unfold out_main_v74
  simp only [hR, hw, hbo, hx]
  pointwise [id]

/-- The buffers before trip `k` of the loop. -/
def atTripK (m : (ℓ : Loc nD τ sig) → Buf (Elt Ideal) ℓ) (c : Dev nD) (k : ℕ) : Valuation τ sig (Elt Ideal) := STEP^[k] (w4 m c)

variable (m : (ℓ : Loc nD τ sig) → Buf (Elt Ideal) ℓ) (c : Dev nD)

theorem atTripK_succ (k : ℕ) : atTripK m c (k + 1) = STEP (atTripK m c k) := Function.iterate_succ_apply' STEP k (w4 m c)

theorem still0 : ∀ k, atTripK m c k (Proc.devRef .tc main_v67_0) = w4 m c (Proc.devRef .tc main_v67_0)
  | 0 => rfl
  | k + 1 => by rw [atTripK_succ, STEP_main_v67_0, still0 k]

theorem still1 : ∀ k, atTripK m c k (Proc.devRef .tc main_v67_1) = w4 m c (Proc.devRef .tc main_v67_1)
  | 0 => rfl
  | k + 1 => by rw [atTripK_succ, STEP_main_v67_1, still1 k]

theorem still2 : ∀ k, atTripK m c k (Proc.devRef .tc main_v67_2) = w4 m c (Proc.devRef .tc main_v67_2)
  | 0 => rfl
  | k + 1 => by rw [atTripK_succ, STEP_main_v67_2, still2 k]

theorem still3 : ∀ k, atTripK m c k (Proc.devRef .tc main_v67_3) = w4 m c (Proc.devRef .tc main_v67_3)
  | 0 => rfl
  | k + 1 => by rw [atTripK_succ, STEP_main_v67_3, still3 k]

/-- The counter before trip `k` is `k`. -/
theorem counter : ∀ k, atTripK m c k (Proc.devRef .tc main_v67_4) = (fun _ => BitVec.ofNat 32 k : IVec S_ 32)
  | 0 => by
    show w4 m c (Proc.devRef .tc main_v67_4) = _
    rw [← entry_eq, ctr_entry]
    rfl
  | k + 1 => by
    rw [atTripK_succ, STEP_main_v67_4]
    unfold step_main_v67_4
    rw [counter k]
    funext i
    show BitVec.ofNat 32 k + 1#32 = BitVec.ofNat 32 (k + 1)
    rw [BitVec.ofNat_add]

/-- The three gates of the recurrence, as the loop starts. -/
theorem gateA (e : Fin 1536) (n : Fin 16) : (w4 m c (Proc.devRef .tc main_v67_1) : FVec Ideal S1536x16 .f32) (ix2 e n) = Ideal.logistic ((argsOf m c).a e n) :=
  (sigA_at (w3 m c) e n).trans (congrArg (fun z : FVec Ideal S1536x16 .f32 => Ideal.logistic (z (ix2 e n))) (arg5_at m c))

theorem gateB (e : Fin 1536) (n : Fin 16) : (w4 m c (Proc.devRef .tc main_v67_2) : FVec Ideal S1536x16 .f32) (ix2 e n) = Ideal.logistic ((argsOf m c).b e n) :=
  (sigB_at (w3 m c) e n).trans (congrArg (fun z : FVec Ideal S1536x16 .f32 => Ideal.logistic (z (ix2 e n))) (arg6_at m c))

theorem gateC (e : Fin 1536) (n : Fin 16) : (w4 m c (Proc.devRef .tc main_v67_3) : FVec Ideal S1536x16 .f32) (ix2 e n) = Ideal.logistic ((argsOf m c).c e n) :=
  (sigC_at (w3 m c) e n).trans (congrArg (fun z : FVec Ideal S1536x16 .f32 => Ideal.logistic (z (ix2 e n))) (arg7_at m c))

/-- One trip's new state, of the state before it. -/
theorem state_next (k : ℕ) (hk : k < 2048)
    (hs : ∀ b e n, (atTripK m c k (Proc.devRef .tc main_v67_5) : FVec Ideal S2x1536x16 .f32) (ix3 b e n) = Math.hst (argsOf m c) b e n k)
    (b : Fin 2) (e : Fin 1536) (n : Fin 16) :
    (res_main_while0b_v84 (atTripK m c k) : FVec Ideal S2x1536x16 .f32) (ix3 b e n) = Math.hst (argsOf m c) b e n (k + 1) := by
  rw [state_at (atTripK m c k) _ (still0 m c k) _ (still1 m c k) _ (still2 m c k) _ rfl ⟨k, hk⟩ (counter m c k) b e n,
    gateA, gateB, hs, xc_at]
  rfl

/-- The state before trip `k`. -/
theorem state : ∀ k, k ≤ 2048 → ∀ b e n,
    (atTripK m c k (Proc.devRef .tc main_v67_5) : FVec Ideal S2x1536x16 .f32) (ix3 b e n) = Math.hst (argsOf m c) b e n k
  | 0, _ => fun b e n => h0_at (w3 m c) b e n
  | k + 1, h => fun b e n => by
    rw [atTripK_succ, STEP_main_v67_5]
    exact state_next m c k (by omega) (state k (by omega)) b e n

/-- A row of results is the sum of the gated states. -/
theorem row_sum (l : Fin 2048) (b : Fin 2) (e : Fin 1536) (w : FVec Ideal S1536x16 .f32) (hw : ∀ n, w (ix2 e n) = Ideal.logistic ((argsOf m c).c e n))
    (h : FVec Ideal S2x1536x16 .f32) (hh : ∀ n, h (ix3 b e n) = Math.hst (argsOf m c) b e n (l.val + 1)) :
    (∑ n : Fin 16, (w (ix2 e n) * h (ix3 b e n) : EReal)) = Math.yv (argsOf m c) b l e := by
  refine Finset.sum_congr rfl fun n _ => ?_
  rw [hw, hh, Math.pst_eq]
  exact mul_comm _ _

/-- The rows of results that the first `k` trips have stored. -/
theorem rows : ∀ k, k ≤ 2048 → ∀ (l : Fin 2048), l.val < k → ∀ b e,
    (atTripK m c k (Proc.devRef .tc main_v67_6) : FVec Ideal S2048x2x1536 .f32) (ix3 l b e) = Math.yv (argsOf m c) b l e
  | 0, _ => fun l hl => absurd hl (Nat.not_lt_zero _)
  | k + 1, h => fun l hl b e => by
    rw [atTripK_succ, STEP_main_v67_6,
      row_at (atTripK m c k) _ rfl _ (still3 m c k) _ rfl ⟨k, by omega⟩ (counter m c k) l b e]
    by_cases hlk : l.val = k
    · rw [if_pos hlk]
      exact row_sum m c l b e _ (gateC m c e) _ fun n => by rw [state_next m c k (by omega) (state m c k (by omega)) b e n, hlk]
    · rw [if_neg hlk]
      exact rows k (by omega) l (by omega) b e

/-- The function that the reference computes, as an array. -/
def outArr (A : Math.Args) : FVec Ideal S2x2048x768 .f32 := fun i => Math.out A (i 0) (i 1) (i 2)

/-- The reference's result. -/
theorem result : out_main_v74 (STEP^[2048] (entryContents preI m c)) = outArr (argsOf m c) := by
  rw [entry_eq]
  funext i
  obtain ⟨b, l, d, rfl⟩ : ∃ (b : Fin 2) (l : Fin 2048) (d : Fin 768), i = ix3 b l d := ⟨i 0, i 1, i 2, by funext a; fin_cases a <;> rfl⟩
  have h8 := iter_main_arg8 m c 2048
  have h9 := iter_main_arg9 m c 2048
  have h0 := iter_main_arg0 m c 2048
  rw [entry_eq] at h8 h9 h0
  refine (out_at (atTripK m c 2048) _ rfl _ h8 _ h9 _ h0 b l d).trans ?_
  refine congrArg (fun z : EReal => z + (argsOf m c).bOut d + (argsOf m c).x b l d) ?_
  refine Finset.sum_congr rfl fun e _ => ?_
  rw [rows m c 2048 (le_refl _) l l.isLt b e]
  rfl

end Cert.ReferenceIdeal.Value
-- ==== Proof.lean ====
/- The claims: the frames of the kernel, of its idealization and of the reference, the kernel's idealization, and the equality of the results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.KernelIdeal.Whole
public import proofs.«01_k».proof.Proof.ReferenceIdeal.Loop
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, its arguments end unchanged, and it has no semaphore. -/
theorem reference_frame : quiescent_ReferenceIdeal (hReferenceIdeal := Cert.ReferenceIdeal.Gen.facts) := fun m g _ =>
  (θ_run Cert.ReferenceIdeal.defs _ _).mono
    (fun r h => ⟨fun c => (h c).2, sem_eq_zero_of_no_sems (by decide) r.2⟩)
    (Cert.ReferenceIdeal.Value.run m g)

/-- Of equal argument arrays both programs read the same numbers. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.argsOf m' c = Cert.KernelIdeal.Body.argsOf m c := by
  unfold Cert.ReferenceIdeal.Value.argsOf
  rw [h0, h1, h2, h3, h4, h5, h6, h7, h8, h9]
  rfl

/-- The idealized kernel and the reference compute the same array. -/
theorem algebraic : algebraic_KernelIdeal_ReferenceIdeal (hKernelIdeal := Cert.KernelIdeal.Gen.facts) (hReferenceIdeal := Cert.ReferenceIdeal.Gen.facts) :=
  fun m g m' g' _ hargs => ⟨fun c => Cert.KernelIdeal.Body.outArr (Cert.KernelIdeal.Body.argsOf m c),
    (θ_run Cert.KernelIdeal.defs _ _).mono
      (fun r h c => ⟨((h.1 c).1 10).trans (Cert.KernelIdeal.Body.final m c), h.2.1 c⟩)
      (θ_run_and (Cert.KernelIdeal.Body.run_main m g) (Cert.KernelIdeal.Body.frame_args m g)),
    (θ_run Cert.ReferenceIdeal.defs _ _).mono
      (fun r h c => ⟨(h c).1.trans ((Cert.ReferenceIdeal.Value.result m' c).trans
        (by
          obtain ⟨h0, h1, h2, h3, h4, h5, h6, h7, h8, h9⟩ := hargs c
          rw [args_eq m m' c h0 h1 h2 h3 h4 h5 h6 h7 h8 h9]
          rfl)), (h c).2⟩)
      (Cert.ReferenceIdeal.Value.run m' g')⟩

theorem claim : Cert.Claim :=
  ⟨Cert.Kernel.Gen.facts, Cert.KernelIdeal.Gen.facts, Cert.ReferenceIdeal.Gen.facts,
    fun m g _ => Cert.Kernel.Body.frame_args m g,
    fun m g _ => Cert.KernelIdeal.Body.frame_args m g,
    reference_frame,
    IdealRules.named_const.statement Cert.KernelIdeal.κ "inv_dim" .f32 0x3AAAAAAB#32 ((1 / 768 : ℝ) : EReal) rfl,
    algebraic⟩

end Cert.Proof

end
